-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S8192x2048 : Shape := ⟨2, ![8192, 2048]⟩
abbrev S32768x2048 : Shape := ⟨2, ![32768, 2048]⟩
abbrev S6x512x2048 : Shape := ⟨3, ![6, 512, 2048]⟩
abbrev S2x512x2048 : Shape := ⟨3, ![2, 512, 2048]⟩
abbrev S6 : Shape := ⟨1, ![6]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 5
  | .vmem => 2
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S32768x2048, .f32⟩
  | .hbm, ⟨3, _⟩ => ⟨S32768x2048, .f32⟩
  | .hbm, ⟨4, _⟩ => ⟨S4x8192x2048, .f32⟩
  | .local _ .vmem, ⟨0, _⟩ => ⟨S6x512x2048, .f32⟩
  | .local _ .vmem, ⟨1, _⟩ => ⟨S2x512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_5 : BitVec 32 := 0#32
  let v20 : BitVec 1 := Scalar.cmpi .eq arg0 c0_i32_5
  let v21 : BitVec 32 := Scalar.extui v20
  let c0_i32_6 : BitVec 32 := 0#32
  let v22 : BitVec 1 := Scalar.cmpi .ne v21 c0_i32_6
  v22

def k0_off1 (c0_i32_43 : BitVec 32) : Fin 2 → Nat :=
  let c4_i32_44 : BitVec 32 := 4#32
  let v102 : BitVec 32 := Scalar.remsi c0_i32_43 c4_i32_44
  let c8192_i32_45 : BitVec 32 := 8192#32
  let v103 : BitVec 32 := Scalar.muli v102 c8192_i32_45
  let c0_i32_46 : BitVec 32 := 0#32
  let v104 : BitVec 32 := Scalar.addi v103 c0_i32_46
  let c0_i32_51 : BitVec 32 := 0#32
  ![v104.toNat, 0]
def k0_off2 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off3 (i : grid0.Coords) : Fin 3 → Nat :=
  let arg0 : BitVec 32 := BitVec.ofNat 32 (i 0).val
  let c6_i32 : BitVec 32 := 6#32
  let v0 : BitVec 32 := Scalar.remsi arg0 c6_i32
  let c0_i32_15 : BitVec 32 := 0#32
  let c0_i32_16 : BitVec 32 := 0#32
  ![v0.toNat, 0, 0]
def k0_off4 (i : grid0.Coords) : Fin 2 → Nat :=
  let arg0 : BitVec 32 := BitVec.ofNat 32 (i 0).val
  let c4_i32_7 : BitVec 32 := 4#32
  let v23 : BitVec 32 := Scalar.remsi arg0 c4_i32_7
  let c8192_i32 : BitVec 32 := 8192#32
  let v24 : BitVec 32 := Scalar.muli v23 c8192_i32
  let c0_i32_9 : BitVec 32 := 0#32
  let v26 : BitVec 1 := Scalar.cmpi .sgt arg0 c0_i32_9
  let v27 : BitVec 32 := Scalar.extui v26
  let c0_i32_10 : BitVec 32 := 0#32
  let v28 : BitVec 1 := Scalar.cmpi .slt arg0 c0_i32_10
  let v29 : BitVec 32 := Scalar.extui v28
  let v30 : BitVec 32 := Scalar.subi v27 v29
  let c4_i32_8 : BitVec 32 := 4#32
  let c0_i32_11 : BitVec 32 := 0#32
  let v31 : BitVec 1 := Scalar.cmpi .sgt c4_i32_8 c0_i32_11
  let v32 : BitVec 32 := Scalar.extui v31
  let c0_i32_12 : BitVec 32 := 0#32
  let v33 : BitVec 1 := Scalar.cmpi .slt c4_i32_8 c0_i32_12
  let v34 : BitVec 32 := Scalar.extui v33
  let v35 : BitVec 32 := Scalar.subi v32 v34
  let v36 : BitVec 1 := Scalar.cmpi .ne v30 v35
  let v37 : BitVec 32 := Scalar.remsi arg0 c4_i32_8
  let c0_i32_13 : BitVec 32 := 0#32
  let v38 : BitVec 1 := Scalar.cmpi .ne v37 c0_i32_13
  let v39 : BitVec 1 := Scalar.andi v36 v38
  let v25 : BitVec 32 := Scalar.divsi arg0 c4_i32_8
  let c1_i32_14 : BitVec 32 := 1#32
  let v40 : BitVec 32 := Scalar.subi v25 c1_i32_14
  let v41 : BitVec 32 := Scalar.select v39 v40 v25
  let c512_i32 : BitVec 32 := 512#32
  let v42 : BitVec 32 := Scalar.muli v41 c512_i32
  let v43 : BitVec 32 := Scalar.addi v24 v42
  let c0_i32_17 : BitVec 32 := 0#32
  ![v43.toNat, 0]
def k0_cond2 (i : grid0.Coords) : BitVec 1 :=
  let arg0 : BitVec 32 := BitVec.ofNat 32 (i 0).val
  let c4_i32_4 : BitVec 32 := 4#32
  let v18 : BitVec 32 := Scalar.remsi arg0 c4_i32_4
  let c0_i32_18 : BitVec 32 := 0#32
  let v49 : BitVec 1 := Scalar.cmpi .eq v18 c0_i32_18
  let v50 : BitVec 32 := Scalar.extui v49
  let c0_i32_19 : BitVec 32 := 0#32
  let v51 : BitVec 1 := Scalar.cmpi .ne v50 c0_i32_19
  v51

def k0_off5 (i : grid0.Coords) : Fin 1 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c2_i32 : BitVec 32 := 2#32
  let v19 : BitVec 32 := Scalar.remsi v17 c2_i32
  ![v19.toNat]
def k0_off6 (i : grid0.Coords) : Fin 3 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c2_i32 : BitVec 32 := 2#32
  let v19 : BitVec 32 := Scalar.remsi v17 c2_i32
  let c0_i32_44 : BitVec 32 := 0#32
  let c0_i32_45 : BitVec 32 := 0#32
  ![v19.toNat, 0, 0]
def k0_off7 (i : grid0.Coords) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c512_i32_43 : BitVec 32 := 512#32
  let v102 : BitVec 32 := Scalar.muli v17 c512_i32_43
  let c0_i32_46 : BitVec 32 := 0#32
  ![v102.toNat, 0]
def k0_off8 (i : grid0.Coords) : Fin 3 → Nat :=
  let arg0 : BitVec 32 := BitVec.ofNat 32 (i 0).val
  let c6_i32 : BitVec 32 := 6#32
  let v0 : BitVec 32 := Scalar.remsi arg0 c6_i32
  let v52 : Index := Scalar.indexCast v0
  let c0 : Index := 0#32
  let c0_20 : Index := 0#32
  ![v52.toNat, 0, 0]
def k0_off9 (i : grid0.Coords) : Fin 3 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c2_i32 : BitVec 32 := 2#32
  let v19 : BitVec 32 := Scalar.remsi v17 c2_i32
  let v55 : Index := Scalar.indexCast v19
  let c0_21 : Index := 0#32
  let c0_22 : Index := 0#32
  ![v55.toNat, 0, 0]
def k0_cond3 (i : grid0.Coords) : BitVec 1 :=
  let arg0 : BitVec 32 := BitVec.ofNat 32 (i 0).val
  let c3_i32 : BitVec 32 := 3#32
  let v89 : BitVec 32 := Scalar.addi arg0 c3_i32
  let c64_i32 : BitVec 32 := 64#32
  let v90 : BitVec 1 := Scalar.cmpi .slt v89 c64_i32
  let v91 : BitVec 32 := Scalar.extui v90
  let c0_i32_38 : BitVec 32 := 0#32
  let v92 : BitVec 1 := Scalar.cmpi .ne v91 c0_i32_38
  v92

def k0_cond4 (i : grid0.Coords) : BitVec 1 :=
  let arg0 : BitVec 32 := BitVec.ofNat 32 (i 0).val
  let c3_i32 : BitVec 32 := 3#32
  let v89 : BitVec 32 := Scalar.addi arg0 c3_i32
  let c6_i32_43 : BitVec 32 := 6#32
  let v102 : BitVec 32 := Scalar.subi v89 c6_i32_43
  let c0_i32_44 : BitVec 32 := 0#32
  let v103 : BitVec 1 := Scalar.cmpi .sge v102 c0_i32_44
  let v104 : BitVec 32 := Scalar.extui v103
  let c0_i32_45 : BitVec 32 := 0#32
  let v105 : BitVec 1 := Scalar.cmpi .ne v104 c0_i32_45
  v105

def k0_off10 (i : grid0.Coords) : Fin 1 → Nat :=
  let arg0 : BitVec 32 := BitVec.ofNat 32 (i 0).val
  let c3_i32 : BitVec 32 := 3#32
  let v89 : BitVec 32 := Scalar.addi arg0 c3_i32
  let c6_i32_43 : BitVec 32 := 6#32
  let v102 : BitVec 32 := Scalar.subi v89 c6_i32_43
  let c6_i32_60 : BitVec 32 := 6#32
  let v133 : BitVec 32 := Scalar.remsi v102 c6_i32_60
  ![v133.toNat]
def k0_off11 (i : grid0.Coords) : Fin 2 → Nat :=
  let arg0 : BitVec 32 := BitVec.ofNat 32 (i 0).val
  let c3_i32 : BitVec 32 := 3#32
  let v89 : BitVec 32 := Scalar.addi arg0 c3_i32
  let c6_i32_43 : BitVec 32 := 6#32
  let v102 : BitVec 32 := Scalar.subi v89 c6_i32_43
  let c4_i32_61 : BitVec 32 := 4#32
  let v134 : BitVec 32 := Scalar.remsi v102 c4_i32_61
  let c8192_i32_62 : BitVec 32 := 8192#32
  let v135 : BitVec 32 := Scalar.muli v134 c8192_i32_62
  let c0_i32_64 : BitVec 32 := 0#32
  let v137 : BitVec 1 := Scalar.cmpi .sgt v102 c0_i32_64
  let v138 : BitVec 32 := Scalar.extui v137
  let c0_i32_65 : BitVec 32 := 0#32
  let v139 : BitVec 1 := Scalar.cmpi .slt v102 c0_i32_65
  let v140 : BitVec 32 := Scalar.extui v139
  let v141 : BitVec 32 := Scalar.subi v138 v140
  let c4_i32_63 : BitVec 32 := 4#32
  let c0_i32_66 : BitVec 32 := 0#32
  let v142 : BitVec 1 := Scalar.cmpi .sgt c4_i32_63 c0_i32_66
  let v143 : BitVec 32 := Scalar.extui v142
  let c0_i32_67 : BitVec 32 := 0#32
  let v144 : BitVec 1 := Scalar.cmpi .slt c4_i32_63 c0_i32_67
  let v145 : BitVec 32 := Scalar.extui v144
  let v146 : BitVec 32 := Scalar.subi v143 v145
  let v147 : BitVec 1 := Scalar.cmpi .ne v141 v146
  let v148 : BitVec 32 := Scalar.remsi v102 c4_i32_63
  let c0_i32_68 : BitVec 32 := 0#32
  let v149 : BitVec 1 := Scalar.cmpi .ne v148 c0_i32_68
  let v150 : BitVec 1 := Scalar.andi v147 v149
  let v136 : BitVec 32 := Scalar.divsi v102 c4_i32_63
  let c1_i32_69 : BitVec 32 := 1#32
  let v151 : BitVec 32 := Scalar.subi v136 c1_i32_69
  let v152 : BitVec 32 := Scalar.select v150 v151 v136
  let c512_i32_70 : BitVec 32 := 512#32
  let v153 : BitVec 32 := Scalar.muli v152 c512_i32_70
  let v154 : BitVec 32 := Scalar.addi v135 v153
  let c0_i32_71 : BitVec 32 := 0#32
  ![v154.toNat, 0]
def k0_off12 (i : grid0.Coords) : Fin 3 → Nat :=
  let arg0 : BitVec 32 := BitVec.ofNat 32 (i 0).val
  let c3_i32 : BitVec 32 := 3#32
  let v89 : BitVec 32 := Scalar.addi arg0 c3_i32
  let c6_i32_43 : BitVec 32 := 6#32
  let v102 : BitVec 32 := Scalar.subi v89 c6_i32_43
  let c6_i32_60 : BitVec 32 := 6#32
  let v133 : BitVec 32 := Scalar.remsi v102 c6_i32_60
  let c0_i32_72 : BitVec 32 := 0#32
  let c0_i32_73 : BitVec 32 := 0#32
  ![v133.toNat, 0, 0]
def k0_off13 (i : grid0.Coords) : Fin 1 → Nat :=
  let arg0 : BitVec 32 := BitVec.ofNat 32 (i 0).val
  let c3_i32 : BitVec 32 := 3#32
  let v89 : BitVec 32 := Scalar.addi arg0 c3_i32
  let c6_i32_46 : BitVec 32 := 6#32
  let v106 : BitVec 32 := Scalar.remsi v89 c6_i32_46
  ![v106.toNat]
def k0_off14 (i : grid0.Coords) : Fin 3 → Nat :=
  let arg0 : BitVec 32 := BitVec.ofNat 32 (i 0).val
  let c3_i32 : BitVec 32 := 3#32
  let v89 : BitVec 32 := Scalar.addi arg0 c3_i32
  let c6_i32_46 : BitVec 32 := 6#32
  let v106 : BitVec 32 := Scalar.remsi v89 c6_i32_46
  let c0_i32_57 : BitVec 32 := 0#32
  let c0_i32_58 : BitVec 32 := 0#32
  ![v106.toNat, 0, 0]
def k0_off15 (i : grid0.Coords) : Fin 2 → Nat :=
  let arg0 : BitVec 32 := BitVec.ofNat 32 (i 0).val
  let c3_i32 : BitVec 32 := 3#32
  let v89 : BitVec 32 := Scalar.addi arg0 c3_i32
  let c4_i32_47 : BitVec 32 := 4#32
  let v107 : BitVec 32 := Scalar.remsi v89 c4_i32_47
  let c8192_i32_48 : BitVec 32 := 8192#32
  let v108 : BitVec 32 := Scalar.muli v107 c8192_i32_48
  let c0_i32_50 : BitVec 32 := 0#32
  let v110 : BitVec 1 := Scalar.cmpi .sgt v89 c0_i32_50
  let v111 : BitVec 32 := Scalar.extui v110
  let c0_i32_51 : BitVec 32 := 0#32
  let v112 : BitVec 1 := Scalar.cmpi .slt v89 c0_i32_51
  let v113 : BitVec 32 := Scalar.extui v112
  let v114 : BitVec 32 := Scalar.subi v111 v113
  let c4_i32_49 : BitVec 32 := 4#32
  let c0_i32_52 : BitVec 32 := 0#32
  let v115 : BitVec 1 := Scalar.cmpi .sgt c4_i32_49 c0_i32_52
  let v116 : BitVec 32 := Scalar.extui v115
  let c0_i32_53 : BitVec 32 := 0#32
  let v117 : BitVec 1 := Scalar.cmpi .slt c4_i32_49 c0_i32_53
  let v118 : BitVec 32 := Scalar.extui v117
  let v119 : BitVec 32 := Scalar.subi v116 v118
  let v120 : BitVec 1 := Scalar.cmpi .ne v114 v119
  let v121 : BitVec 32 := Scalar.remsi v89 c4_i32_49
  let c0_i32_54 : BitVec 32 := 0#32
  let v122 : BitVec 1 := Scalar.cmpi .ne v121 c0_i32_54
  let v123 : BitVec 1 := Scalar.andi v120 v122
  let v109 : BitVec 32 := Scalar.divsi v89 c4_i32_49
  let c1_i32_55 : BitVec 32 := 1#32
  let v124 : BitVec 32 := Scalar.subi v109 c1_i32_55
  let v125 : BitVec 32 := Scalar.select v123 v124 v109
  let c512_i32_56 : BitVec 32 := 512#32
  let v126 : BitVec 32 := Scalar.muli v125 c512_i32_56
  let v127 : BitVec 32 := Scalar.addi v108 v126
  let c0_i32_59 : BitVec 32 := 0#32
  ![v127.toNat, 0]
def k0_cond5 (i : grid0.Coords) : BitVec 1 :=
  let arg0 : BitVec 32 := BitVec.ofNat 32 (i 0).val
  let c4_i32_4 : BitVec 32 := 4#32
  let v18 : BitVec 32 := Scalar.remsi arg0 c4_i32_4
  let c3_i32_39 : BitVec 32 := 3#32
  let v93 : BitVec 1 := Scalar.cmpi .eq v18 c3_i32_39
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c2_i32_40 : BitVec 32 := 2#32
  let v94 : BitVec 32 := Scalar.addi v17 c2_i32_40
  let c16_i32 : BitVec 32 := 16#32
  let v95 : BitVec 1 := Scalar.cmpi .slt v94 c16_i32
  let v96 : BitVec 1 := Scalar.andi v93 v95
  let v97 : BitVec 32 := Scalar.extui v96
  let c0_i32_41 : BitVec 32 := 0#32
  let v98 : BitVec 1 := Scalar.cmpi .ne v97 c0_i32_41
  v98

def k0_off16 (i : grid0.Coords) : Fin 1 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c2_i32 : BitVec 32 := 2#32
  let v19 : BitVec 32 := Scalar.remsi v17 c2_i32
  ![v19.toNat]
def k0_off17 (i : grid0.Coords) : Fin 3 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c2_i32 : BitVec 32 := 2#32
  let v19 : BitVec 32 := Scalar.remsi v17 c2_i32
  let c0_i32_45 : BitVec 32 := 0#32
  let c0_i32_46 : BitVec 32 := 0#32
  ![v19.toNat, 0, 0]
def k0_off18 (i : grid0.Coords) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let v1 : BitVec 32 := Scalar.divsi arg0 c4_i32
  let c1_i32 : BitVec 32 := 1#32
  let v16 : BitVec 32 := Scalar.subi v1 c1_i32
  let v17 : BitVec 32 := Scalar.select v15 v16 v1
  let c2_i32_43 : BitVec 32 := 2#32
  let v102 : BitVec 32 := Scalar.addi v17 c2_i32_43
  let c512_i32_44 : BitVec 32 := 512#32
  let v103 : BitVec 32 := Scalar.muli v102 c512_i32_44
  let c0_i32_47 : BitVec 32 := 0#32
  ![v103.toNat, 0]
def k0_cond6 (i : grid0.Coords) : BitVec 1 :=
  let arg0 : BitVec 32 := BitVec.ofNat 32 (i 0).val
  let c63_i32 : BitVec 32 := 63#32
  let v99 : BitVec 1 := Scalar.cmpi .eq arg0 c63_i32
  let v100 : BitVec 32 := Scalar.extui v99
  let c0_i32_42 : BitVec 32 := 0#32
  let v101 : BitVec 1 := Scalar.cmpi .ne v100 c0_i32_42
  v101

def k0_off19 (c58_i32 : BitVec 32) (c7168_i32 : BitVec 32) : Fin 2 → Nat :=
  let c4_i32_43 : BitVec 32 := 4#32
  let v102 : BitVec 32 := Scalar.remsi c58_i32 c4_i32_43
  let c8192_i32_44 : BitVec 32 := 8192#32
  let v103 : BitVec 32 := Scalar.muli v102 c8192_i32_44
  let v104 : BitVec 32 := Scalar.addi v103 c7168_i32
  let c0_i32_47 : BitVec 32 := 0#32
  ![v104.toNat, 0]
def k0_off19_at (r : Fin 6) : BitVec 32 × BitVec 32 :=
  if r.val < 3 then
    if r.val < 1 then
      (58#32, 7168#32)
    else
      if r.val < 2 then
        (59#32, 7168#32)
      else
        (60#32, 7680#32)
  else
    if r.val < 4 then
      (61#32, 7680#32)
    else
      if r.val < 5 then
        (62#32, 7680#32)
      else
        (63#32, 7680#32)
-- ==== ReferenceIdeal.lean ====
abbrev S4x8192x2048 : Shape := ⟨3, ![4, 8192, 2048]⟩
abbrev S8192x2048 : Shape := ⟨2, ![8192, 2048]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x2048 : Shape := ⟨3, ![1, 8192, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x2048, .f32⟩
  | .hbm, ⟨22, _⟩ => ⟨S8192x2048, .i1⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S1x8192x2048, .f32⟩
  | .hbm, ⟨27, _⟩ => ⟨S4x8192x2048, .f32⟩
  | .hbm, ⟨28, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Schedule.lean ====
/- The kernel's hand-made transfer schedule as a finite machine, with nothing of the program logic in it.

   The rows of `x` and of the result are cut into 64 blocks of 512 rows, those of the position table into 16. Grid point `t`
   works on block `bk t`. A ring of six slots holds blocks of `x`; a pair of slots holds blocks of the table. `St` records
   where every block and every slot stands; the functions below it are the moves the kernel makes; `at_` is the state
   before each grid point in closed form, and the theorems decide, over all 64 points, that every move the kernel makes
   finds its slot ready and that the moves of a point lead from one closed form to the next. -/
module

public import proofs.«01_k».proof.Proof.Gen.KernelIdeal

@[expose] public section

set_option maxRecDepth 16384
set_option Elab.async false

noncomputable section

namespace Cert.Ring

/-- Where a block of the result stands: not yet written, being written, written. -/
inductive OSt where
  | old | away | done
deriving DecidableEq

/-- Where a slot of the ring stands: free; block `b` of `x` arriving; it has arrived; the table has been added to it; it is
    leaving for block `b` of the result. -/
inductive SSt where
  | free
  | inn (b : Fin 64)
  | loaded (b : Fin 64)
  | summed (b : Fin 64)
  | out (b : Fin 64)
deriving DecidableEq

/-- Where a slot of the pair stands: never used; block `i` of the table arriving; it has arrived. -/
inductive PSt where
  | free
  | inn (i : Fin 16)
  | held (i : Fin 16)
deriving DecidableEq

/-- The whole state: whether each block of `x` and of the table is in the core's hand, where each block of the result
    stands, and where each slot stands. -/
structure St where
  xs : Fin 64 → Bool
  os : Fin 64 → OSt
  ps : Fin 16 → Bool
  sl : Fin 6 → SSt
  pl : Fin 2 → PSt
deriving DecidableEq

namespace St

/-- Block `b` of `x` sets out for slot `s`. -/
def startIn (s : Fin 6) (b : Fin 64) (σ : St) : St :=
  { σ with xs := Function.update σ.xs b false, sl := Function.update σ.sl s (.inn b) }
/-- Block `b` of `x` has arrived in slot `s`. -/
def waitIn (s : Fin 6) (b : Fin 64) (σ : St) : St :=
  { σ with xs := Function.update σ.xs b true, sl := Function.update σ.sl s (.loaded b) }
/-- The table is added in slot `s`. -/
def add (s : Fin 6) (b : Fin 64) (σ : St) : St := { σ with sl := Function.update σ.sl s (.summed b) }
/-- Slot `s` sets out for block `b` of the result. -/
def startOut (s : Fin 6) (b : Fin 64) (σ : St) : St :=
  { σ with os := Function.update σ.os b .away, sl := Function.update σ.sl s (.out b) }
/-- Block `b` of the result is written, and slot `s` is free. -/
def waitOut (s : Fin 6) (b : Fin 64) (σ : St) : St :=
  { σ with os := Function.update σ.os b .done, sl := Function.update σ.sl s .free }
/-- Block `i` of the table sets out for slot `s` of the pair. -/
def startPos (s : Fin 2) (i : Fin 16) (σ : St) : St :=
  { σ with ps := Function.update σ.ps i false, pl := Function.update σ.pl s (.inn i) }
/-- Block `i` of the table has arrived in slot `s` of the pair. -/
def waitPos (s : Fin 2) (i : Fin 16) (σ : St) : St :=
  { σ with ps := Function.update σ.ps i true, pl := Function.update σ.pl s (.held i) }

end St

/-- The block of `x` and of the result that point `n` works on. -/
def bk (n : ℕ) : Fin 64 := ⟨(n % 4 * 16 + n / 4) % 64, Nat.mod_lt _ (by decide)⟩
/-- The slot of the ring point `n` uses. -/
def sk (n : ℕ) : Fin 6 := ⟨n % 6, Nat.mod_lt _ (by decide)⟩
/-- The block of the table point `n` uses. -/
def pk (n : ℕ) : Fin 16 := ⟨n / 4 % 16, Nat.mod_lt _ (by decide)⟩
/-- The slot of the pair point `n` uses. -/
def qk (n : ℕ) : Fin 2 := ⟨n / 4 % 2, Nat.mod_lt _ (by decide)⟩
/-- The block of the table that block `b` of `x` is added to. -/
def pb (b : Fin 64) : Fin 16 := ⟨b.val % 16, Nat.mod_lt _ (by decide)⟩

/-- The state before point `p` (after the last, at `p = 64`). -/
def at_ (p : ℕ) : St where
  xs b := let j := b.val % 16 * 4 + b.val / 16; !(decide (0 < p) && decide (p ≤ j) && decide (j < p + 3))
  os b := let j := b.val % 16 * 4 + b.val / 16
    if p = 64 ∨ (j + 4 ≤ p ∧ j ≤ 57) then .done else if j < p then .away else .old
  ps i := !(decide (0 < p) && (decide (i.val < 2) || decide (4 * i.val ≤ p + 4)) && decide (p ≤ 4 * i.val))
  sl s :=
    let e := p + 3 + (s.val + 6 - (p + 3) % 6) % 6
    if p = 0 ∨ p = 64 ∨ e < 6 then .free
    else if 70 ≤ e then .out (bk (e - 12))
    else if p + 6 ≤ e then .inn (bk (e - 6)) else .out (bk (e - 6))
  pl s :=
    let g := p / 4
    let i := g + (s.val + 2 - g % 2) % 2
    if p = 0 then .free
    else if 16 ≤ i then .held (Fin.ofNat 16 (i - 2))
    else if i = g ∧ p % 4 ≠ 0 then .held (Fin.ofNat 16 i) else .inn (Fin.ofNat 16 i)

/-- The first transfers, at the first point only. -/
def stA (n : ℕ) (σ : St) : St :=
  if n = 0 then ((((σ.startIn 0 (bk 0)).startIn 1 (bk 1)).startIn 2 (bk 2)).startPos 0 0).startPos 1 1 else σ
/-- The block of `x` has arrived. -/
def stB (n : ℕ) (σ : St) : St := σ.waitIn (sk n) (bk n)
/-- The block of the table has arrived, every fourth point. -/
def stC (n : ℕ) (σ : St) : St := if n % 4 = 0 then σ.waitPos (qk n) (pk n) else σ
/-- The sum is made. -/
def stD (n : ℕ) (σ : St) : St := σ.add (sk n) (bk n)
/-- The sum sets out for the result. -/
def stE (n : ℕ) (σ : St) : St := σ.startOut (sk n) (bk n)
/-- The slot three points ahead is emptied, once it has been used. -/
def stF (n : ℕ) (σ : St) : St := if 3 ≤ n then σ.waitOut (sk (n + 3)) (bk (n - 3)) else σ
/-- The slot three points ahead is emptied and refilled, while there is such a point. -/
def stG (n : ℕ) (σ : St) : St := if n + 3 < 64 then (stF n σ).startIn (sk (n + 3)) (bk (n + 3)) else σ
/-- The table's block after the next sets out, at the last point of each four, while there is one. -/
def stH (n : ℕ) (σ : St) : St := if n % 4 = 3 ∧ n / 4 + 2 < 16 then σ.startPos (qk n) (pk (n + 8)) else σ
/-- The ring is emptied, at the last point. -/
def stI (n : ℕ) (σ : St) : St :=
  if n = 63 then (((((σ.waitOut 4 (bk 58)).waitOut 5 (bk 59)).waitOut 0 (bk 60)).waitOut 1 (bk 61)).waitOut 2 (bk 62)).waitOut 3 (bk 63) else σ

/-- The states within point `n`, in order. -/
def sA (n : ℕ) : St := stA n (at_ n)
def sB (n : ℕ) : St := stB n (sA n)
def sC (n : ℕ) : St := stC n (sB n)
def sD (n : ℕ) : St := stD n (sC n)
def sE (n : ℕ) : St := stE n (sD n)
def sG (n : ℕ) : St := stG n (sE n)
def sH (n : ℕ) : St := stH n (sG n)
def sI (n : ℕ) : St := stI n (sH n)

/-- Two states are equal when their five parts are. -/
theorem St.ext' {σ τ : St} (h : σ.xs = τ.xs ∧ σ.os = τ.os ∧ σ.ps = τ.ps ∧ σ.sl = τ.sl ∧ σ.pl = τ.pl) : σ = τ := by
  obtain ⟨h1, h2, h3, h4, h5⟩ := h
  cases σ; cases τ; simp_all

/-- A point's moves lead from the state before it to the state before the next. -/
theorem step (n : Fin 64) : sI n.val = at_ (n.val + 1) := by
  apply St.ext'
  revert n
  decide +kernel

/-- Before the first point every block is in hand and every slot is free. -/
theorem at_zero : at_ 0 = ⟨fun _ => true, fun _ => .old, fun _ => true, fun _ => .free, fun _ => .free⟩ := by
  apply St.ext'
  decide +kernel

/-- After the last point every block is in hand, the result is written, and no slot has a transfer under way. -/
theorem at_last : (at_ 64).xs = (fun _ => true) ∧ (at_ 64).os = (fun _ => .done) ∧ (at_ 64).ps = (fun _ => true)
    ∧ (at_ 64).sl = (fun _ => .free) ∧ ∀ s i, (at_ 64).pl s ≠ .inn i := by
  decide +kernel

/-! ## What each move finds -/

/-- At each point the awaited block of `x` is the one arriving. -/
theorem sA_sl (n : Fin 64) : (sA n.val).sl (sk n.val) = .inn (bk n.val) := by revert n; decide +kernel
/-- and it is out of the core's hand. -/
theorem sA_xs (n : Fin 64) : (sA n.val).xs (bk n.val) = false := by revert n; decide +kernel
/-- Every fourth point the awaited block of the table is the one arriving, -/
theorem sB_pl (n : Fin 64) : n.val % 4 = 0 → (sB n.val).pl (qk n.val) = .inn (pk n.val) := by revert n; decide +kernel
/-- and it is out of the core's hand. -/
theorem sB_ps (n : Fin 64) : n.val % 4 = 0 → (sB n.val).ps (pk n.val) = false := by revert n; decide +kernel
/-- The sum finds the block of `x` arrived, -/
theorem sC_sl (n : Fin 64) : (sC n.val).sl (sk n.val) = .loaded (bk n.val) := by revert n; decide +kernel
/-- and the block of the table it is added to. -/
theorem sC_pl (n : Fin 64) : (sC n.val).pl (qk n.val) = .held (pb (bk n.val)) := by revert n; decide +kernel
/-- The sum is in the slot, -/
theorem sD_sl (n : Fin 64) : (sD n.val).sl (sk n.val) = .summed (bk n.val) := by revert n; decide +kernel
/-- and the block of the result it sets out for is not yet written. -/
theorem sD_os (n : Fin 64) : (sD n.val).os (bk n.val) = .old := by revert n; decide +kernel
/-- The slot three points ahead, once used, is leaving for the block of three points ago, -/
theorem sE_sl (n : Fin 64) : n.val + 3 < 64 → 3 ≤ n.val → (sE n.val).sl (sk (n.val + 3)) = .out (bk (n.val - 3)) := by
  revert n; decide +kernel
/-- which is being written; -/
theorem sE_os (n : Fin 64) : n.val + 3 < 64 → 3 ≤ n.val → (sE n.val).os (bk (n.val - 3)) = .away := by revert n; decide +kernel
/-- emptied, it is free, -/
theorem sF_sl (n : Fin 64) : n.val + 3 < 64 → (stF n.val (sE n.val)).sl (sk (n.val + 3)) = .free := by revert n; decide +kernel
/-- and the block of `x` it is to take is in hand. -/
theorem sF_xs (n : Fin 64) : n.val + 3 < 64 → (stF n.val (sE n.val)).xs (bk (n.val + 3)) = true := by revert n; decide +kernel
/-- The slot of the pair to be refilled has nothing arriving, -/
theorem sG_pl (n : Fin 64) : n.val % 4 = 3 ∧ n.val / 4 + 2 < 16 → ∀ i, (sG n.val).pl (qk n.val) ≠ .inn i := by
  revert n; decide +kernel
/-- and the block of the table it is to take is in hand. -/
theorem sG_ps (n : Fin 64) : n.val % 4 = 3 ∧ n.val / 4 + 2 < 16 → (sG n.val).ps (pk (n.val + 8)) = true := by
  revert n; decide +kernel

/-- The first transfers, one after another: each finds its slot free and its block in hand. -/
theorem first (σ : St) (h : σ = at_ 0) :
    (σ.sl 0 = .free ∧ σ.xs (bk 0) = true)
    ∧ ((σ.startIn 0 (bk 0)).sl 1 = .free ∧ (σ.startIn 0 (bk 0)).xs (bk 1) = true)
    ∧ (((σ.startIn 0 (bk 0)).startIn 1 (bk 1)).sl 2 = .free ∧ ((σ.startIn 0 (bk 0)).startIn 1 (bk 1)).xs (bk 2) = true)
    ∧ ((∀ i, (((σ.startIn 0 (bk 0)).startIn 1 (bk 1)).startIn 2 (bk 2)).pl 0 ≠ .inn i)
      ∧ (((σ.startIn 0 (bk 0)).startIn 1 (bk 1)).startIn 2 (bk 2)).ps 0 = true)
    ∧ ((∀ i, ((((σ.startIn 0 (bk 0)).startIn 1 (bk 1)).startIn 2 (bk 2)).startPos 0 0).pl 1 ≠ .inn i)
      ∧ ((((σ.startIn 0 (bk 0)).startIn 1 (bk 1)).startIn 2 (bk 2)).startPos 0 0).ps 1 = true) := by
  subst h; decide +kernel

/-- The last waits, one after another: each slot is leaving for its block. -/
theorem last (σ : St) (h : σ = sH 63) :
    (σ.sl 4 = .out (bk 58) ∧ σ.os (bk 58) = .away)
    ∧ ((σ.waitOut 4 (bk 58)).sl 5 = .out (bk 59) ∧ (σ.waitOut 4 (bk 58)).os (bk 59) = .away)
    ∧ (((σ.waitOut 4 (bk 58)).waitOut 5 (bk 59)).sl 0 = .out (bk 60) ∧ ((σ.waitOut 4 (bk 58)).waitOut 5 (bk 59)).os (bk 60) = .away)
    ∧ ((((σ.waitOut 4 (bk 58)).waitOut 5 (bk 59)).waitOut 0 (bk 60)).sl 1 = .out (bk 61)
      ∧ (((σ.waitOut 4 (bk 58)).waitOut 5 (bk 59)).waitOut 0 (bk 60)).os (bk 61) = .away)
    ∧ (((((σ.waitOut 4 (bk 58)).waitOut 5 (bk 59)).waitOut 0 (bk 60)).waitOut 1 (bk 61)).sl 2 = .out (bk 62)
      ∧ ((((σ.waitOut 4 (bk 58)).waitOut 5 (bk 59)).waitOut 0 (bk 60)).waitOut 1 (bk 61)).os (bk 62) = .away)
    ∧ ((((((σ.waitOut 4 (bk 58)).waitOut 5 (bk 59)).waitOut 0 (bk 60)).waitOut 1 (bk 61)).waitOut 2 (bk 62)).sl 3 = .out (bk 63)
      ∧ (((((σ.waitOut 4 (bk 58)).waitOut 5 (bk 59)).waitOut 0 (bk 60)).waitOut 1 (bk 61)).waitOut 2 (bk 62)).os (bk 63) = .away) := by
  subst h; decide +kernel

end Cert.Ring

end
-- ==== Proof.Moves.lean ====
/- What the core holds in each state of the schedule, and the moves of the kernel proved against it. -/
module

public import proofs.«01_k».proof.Proof.Schedule
public import proofs.«01_k».proof.Proof.Gen.KernelIdeal.Frame
public import proofs.«01_k».proof.Proof.Gen.KernelIdeal.Skeleton
public import Idealize.ShloMosaic.Lib.Transfers
public import Idealize.ShloMosaic.Lib.Pipeline.Value

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Cert.KernelIdeal Cert.KernelIdeal.Gen

variable {F : FTy → Type} [FloatOps F]

local notation "𝕄" => MT nD τ sig Unit (Elt F) ℕ (Pipeline.UD sig nD τ) ℕ

/-! ## The blocks, the slots and the cells -/

theorem inb_x (b : Fin 64) : ∀ a, (![512 * b.val, 0] : Fin 2 → ℕ) a + S512x2048.size a ≤ S32768x2048.size a := by
  revert b; decide +kernel
theorem inb_p (i : Fin 16) : ∀ a, (![512 * i.val, 0] : Fin 2 → ℕ) a + S512x2048.size a ≤ S8192x2048.size a := by
  revert i; decide +kernel
theorem inb_s (s : Fin 6) : ∀ a, (![s.val, 0, 0] : Fin 3 → ℕ) a + S1x512x2048.size a ≤ S6x512x2048.size a := by
  revert s; decide +kernel
theorem inb_q (s : Fin 2) : ∀ a, (![s.val, 0, 0] : Fin 3 → ℕ) a + S1x512x2048.size a ≤ S2x512x2048.size a := by
  revert s; decide +kernel
theorem inb_sc (s : Fin 6) : ∀ a, (![s.val] : Fin 1 → ℕ) a + S1.size a ≤ S6.size a := by
  revert s; decide +kernel
theorem inb_qc (s : Fin 2) : ∀ a, (![s.val] : Fin 1 → ℕ) a + S1.size a ≤ S2.size a := by
  revert s; decide +kernel

/-- Rows of `x`, of the table and of the result from an offset on: 512 of them. -/
abbrev xAt (off : Fin 2 → ℕ) (h : ∀ a, off a + S512x2048.size a ≤ S32768x2048.size a) : Memref sig .tc .hbm S512x2048 .f32 :=
  (Memref.whole main_v0 : Memref sig .tc .hbm S32768x2048 .f32).slice (Rect.unit (s := S32768x2048) off S512x2048.size h) (fun _ => rfl)
abbrev pAt (off : Fin 2 → ℕ) (h : ∀ a, off a + S512x2048.size a ≤ S8192x2048.size a) : Memref sig .tc .hbm S512x2048 .f32 :=
  (Memref.whole main_arg1 : Memref sig .tc .hbm S8192x2048 .f32).slice (Rect.unit (s := S8192x2048) off S512x2048.size h) (fun _ => rfl)
abbrev oAt (off : Fin 2 → ℕ) (h : ∀ a, off a + S512x2048.size a ≤ S32768x2048.size a) : Memref sig .tc .hbm S512x2048 .f32 :=
  (Memref.whole main_v1 : Memref sig .tc .hbm S32768x2048 .f32).slice (Rect.unit (s := S32768x2048) off S512x2048.size h) (fun _ => rfl)
/-- A slot of the ring and of the pair, as the box of one slot and with the slot's axis dropped. -/
abbrev sBox (off : Fin 3 → ℕ) (h : ∀ a, off a + S1x512x2048.size a ≤ S6x512x2048.size a) : Memref sig .tc .vmem S1x512x2048 .f32 :=
  (Memref.whole cc0_scratch0 : Memref sig .tc .vmem S6x512x2048 .f32).slice (Rect.unit (s := S6x512x2048) off S1x512x2048.size h) (fun _ => rfl)
abbrev sAt (off : Fin 3 → ℕ) (h : ∀ a, off a + S1x512x2048.size a ≤ S6x512x2048.size a) : Memref sig .tc .vmem S512x2048 .f32 :=
  (sBox off h).squeeze S512x2048 squeezes_S1x512x2048_S512x2048
abbrev qBox (off : Fin 3 → ℕ) (h : ∀ a, off a + S1x512x2048.size a ≤ S2x512x2048.size a) : Memref sig .tc .vmem S1x512x2048 .f32 :=
  (Memref.whole cc0_scratch1 : Memref sig .tc .vmem S2x512x2048 .f32).slice (Rect.unit (s := S2x512x2048) off S1x512x2048.size h) (fun _ => rfl)
abbrev qAt (off : Fin 3 → ℕ) (h : ∀ a, off a + S1x512x2048.size a ≤ S2x512x2048.size a) : Memref sig .tc .vmem S512x2048 .f32 :=
  (qBox off h).squeeze S512x2048 squeezes_S1x512x2048_S512x2048
/-- The cell of an array of six, and of two. -/
abbrev cell6 (a : DmaSems sig S6) (off : Fin 1 → ℕ) (h : ∀ i, off i + S1.size i ≤ S6.size i) : DmaSem sig :=
  ((a.slice (Rect.unit (s := S6) off S1.size h)).squeeze S_ squeezes_S1_S_).sem
abbrev cell2 (a : DmaSems sig S2) (off : Fin 1 → ℕ) (h : ∀ i, off i + S1.size i ≤ S2.size i) : DmaSem sig :=
  ((a.slice (Rect.unit (s := S2) off S1.size h)).squeeze S_ squeezes_S1_S_).sem

abbrev xM (b : Fin 64) := xAt _ (inb_x b)
abbrev oM (b : Fin 64) := oAt _ (inb_x b)
abbrev pM (i : Fin 16) := pAt _ (inb_p i)
abbrev sM (s : Fin 6) := sAt _ (inb_s s)
abbrev qM (s : Fin 2) := qAt _ (inb_q s)
abbrev inC (s : Fin 6) : DmaSem sig := cell6 cc0_scratch2 _ (inb_sc s)
abbrev outC (s : Fin 6) : DmaSem sig := cell6 cc0_scratch3 _ (inb_sc s)
abbrev posC (s : Fin 2) : DmaSem sig := cell2 cc0_scratch4 _ (inb_qc s)

/-- The credit of a transfer into a slot of the ring, into a slot of the pair, and into the result. -/
abbrev nIn : ℕ := (sM 0).view.dmaCredit
abbrev nPos : ℕ := (qM 0).view.dmaCredit
abbrev nOut : ℕ := (oM 0).view.dmaCredit

theorem nIn_pos : 0 < nIn := View.dmaCredit_pos _ (by decide)
theorem nPos_pos : 0 < nPos := View.dmaCredit_pos _ (by decide)
theorem nOut_pos : 0 < nOut := View.dmaCredit_pos _ (by decide)

/-! ## What is held -/

section Held

variable (c : Dev nD) (X : Buf (Elt F) ((c.tc : Thread nD τ).loc main_v0)) (P : Buf (Elt F) ((c.tc : Thread nD τ).loc main_arg1))
  (O G : Buf (Elt F) ((c.tc : Thread nD τ).loc main_v1))

/-- Block `b` of `x`, block `i` of the table, block `b` of the result, as they are read. -/
abbrev xv (b : Fin 64) : FVec F S512x2048 .f32 := (xM b).view.read (Elt F) X
abbrev pv (i : Fin 16) : FVec F S512x2048 .f32 := (pM i).view.read (Elt F) P
abbrev gv (b : Fin 64) : FVec F S512x2048 .f32 := (oM b).view.read (Elt F) G

/-- Slot `s` of the ring at some contents; of the pair. -/
def sAny (s : Fin 6) : sProp 𝕄 := iprop(∃ f, (sM s).view.loc (c.tc : Thread nD τ) ↦[(sM s).view.set]{fullShare} f)
def qAny (s : Fin 2) : sProp 𝕄 := iprop(∃ f, (qM s).view.loc (c.tc : Thread nD τ) ↦[(qM s).view.set]{fullShare} f)
/-- Slot `s` of the ring read as `v`; of the pair. -/
def sHas (s : Fin 6) (v : FVec F S512x2048 .f32) : sProp 𝕄 :=
  iprop(∃ f, ⌜(sM s).view.read (Elt F) f = v⌝ ∗ ((sM s).view.loc (c.tc : Thread nD τ) ↦[(sM s).view.set]{fullShare} f))
def qHas (s : Fin 2) (v : FVec F S512x2048 .f32) : sProp 𝕄 :=
  iprop(∃ f, ⌜(qM s).view.read (Elt F) f = v⌝ ∗ ((qM s).view.loc (c.tc : Thread nD τ) ↦[(qM s).view.set]{fullShare} f))
/-- Block `b` of `x`, block `i` of the table, block `b` of the result at given contents. -/
def xHas (b : Fin 64) : sProp 𝕄 := (xM b).view.loc (c.tc : Thread nD τ) ↦[(xM b).view.set]{fullShare} X
def pHas (i : Fin 16) : sProp 𝕄 := (pM i).view.loc (c.tc : Thread nD τ) ↦[(pM i).view.set]{fullShare} P
def oHas (G : Buf (Elt F) ((c.tc : Thread nD τ).loc main_v1)) (b : Fin 64) : sProp 𝕄 :=
  (oM b).view.loc (c.tc : Thread nD τ) ↦[(oM b).view.set]{fullShare} G
/-- A cell of the core at zero. -/
def z (s : DmaSem sig) : sProp 𝕄 := semVal ((c.tc : Thread nD τ), SemLoc.dma s) 0
/-- A transfer under way on a cell, that will deliver `D`. -/
def fl (s : DmaSem sig) (n : ℕ) (D : sProp 𝕄) : sProp 𝕄 := Flight (countersEmb (U := Pipeline.UD sig nD τ)) (c.tc : Thread nD τ) (.dma s) () n D

/-- What is held of a block of `x`, of the table, of the result, of a slot of the ring and of the pair, by where it stands. -/
def hX (b : Fin 64) : Bool → sProp 𝕄
  | true => xHas c X b
  | false => iprop(emp)
def hP (i : Fin 16) : Bool → sProp 𝕄
  | true => pHas c P i
  | false => iprop(emp)
def hO (b : Fin 64) : OSt → sProp 𝕄
  | .old => oHas c O b
  | .away => iprop(emp)
  | .done => oHas c G b
def hS (s : Fin 6) : SSt → sProp 𝕄
  | .free => iprop(sAny (F := F) c s ∗ z c (inC s) ∗ z c (outC s))
  | .inn b => iprop(fl c (inC s) nIn iprop(sHas c s (xv c X b) ∗ xHas c X b) ∗ z c (outC s))
  | .loaded b => iprop(sHas c s (xv c X b) ∗ z c (inC s) ∗ z c (outC s))
  | .summed b => iprop(sHas c s (gv c G b) ∗ z c (inC s) ∗ z c (outC s))
  | .out b => iprop(fl c (outC s) nOut iprop(oHas c G b ∗ sAny (F := F) c s) ∗ z c (inC s))
def hQ (s : Fin 2) : PSt → sProp 𝕄
  | .free => iprop(qAny (F := F) c s ∗ z c (posC s))
  | .inn i => iprop(fl c (posC s) nPos iprop(qHas c s (pv c P i) ∗ pHas c P i))
  | .held i => iprop(qHas c s (pv c P i) ∗ z c (posC s))

/-- Everything held in a state. -/
def Inv (σ : St) : sProp 𝕄 :=
  iprop((bigSep Finset.univ fun b => hX c X b (σ.xs b)) ∗ (bigSep Finset.univ fun b => hO c O G b (σ.os b))
    ∗ (bigSep Finset.univ fun i => hP c P i (σ.ps i)) ∗ (bigSep Finset.univ fun s => hS c X G s (σ.sl s))
    ∗ bigSep Finset.univ fun s => hQ c P s (σ.pl s))

/-- What the core still owes: nothing. -/
def idle : sProp 𝕄 := iprop(∃ W, owes (c.tc : Thread nD τ) (0 : CellTallies nD τ sig Unit) W)

end Held

/-- One member of a family, taken out at the status `a₀` it has, may be put back at another. -/
theorem focus {I A : Type} [Fintype I] [DecidableEq I] (Φ : I → A → sProp 𝕄) (st : I → A) (i : I) (a : A) {a₀ : A} (h : st i = a₀) :
    bigSep Finset.univ (fun k => Φ k (st k)) ⊢ iprop(Φ i a₀ ∗ (Φ i a -∗ bigSep Finset.univ (fun k => Φ k (Function.update st i a k)))) := by
  have e : bigSep (Finset.univ.erase i) (fun k => Φ k (Function.update st i a k)) = bigSep (Finset.univ.erase i) (fun k => Φ k (st k)) :=
    bigSep_congr fun k hk => by rw [Function.update_of_ne (Finset.ne_of_mem_erase hk)]
  refine (Entails.of_eq (bigSep_univ_split i (Φ := fun k => Φ k (st k)))).trans ?_
  refine BIBase.Entails.trans ?_ (sep_mono_right (wand_mono_right
    (Entails.of_eq (bigSep_univ_split i (Φ := fun k => Φ k (Function.update st i a k))).symm)))
  rw [e, Function.update_self, h]
  show iprop(Φ i a₀ ∗ bigSep (Finset.univ.erase i) (fun k => Φ k (st k)))
    ⊢ iprop(Φ i a₀ ∗ (Φ i a -∗ (Φ i a ∗ bigSep (Finset.univ.erase i) (fun k => Φ k (st k)))))
  iintro ⟨H, Hr⟩
  isplitl [H]; · iexact H
  iintro H'
  isplitl [H'] <;> iassumption

/-! ## The moves -/

section Moves

variable {𝒱 : Variants} {c : Dev nD} {X : Buf (Elt F) ((c.tc : Thread nD τ).loc main_v0)} {P : Buf (Elt F) ((c.tc : Thread nD τ).loc main_arg1)}
  {O G : Buf (Elt F) ((c.tc : Thread nD τ).loc main_v1)} {α : Type} {k : PUnit → Prog (TpuEff nD τ sig (Elt F) Λ₀ .tc) α}

/-- A block of `x` in hand sets out for a free slot of the ring. -/
theorem startIn {R : α → sProp 𝕄} (σ : St) (s : Fin 6) (b : Fin 64) (hs : σ.sl s = .free) (hx : σ.xs b = true) {ox : Fin 2 → ℕ} {os : Fin 3 → ℕ} {oc : Fin 1 → ℕ}
    (ex : ox = ![512 * b.val, 0]) (es : os = ![s.val, 0, 0]) (ec : oc = ![s.val]) {hox hos hoc h1 h2 h3} :
    iprop(Inv c X P O G σ ∗ (Inv c X P O G (σ.startIn s b) -∗ wp frame (wpE defs₀ 𝒱 (c.tc : Thread nD τ) none) Set.univ (k ⟨⟩) R))
      ⊢ wp frame (wpE defs₀ 𝒱 (c.tc : Thread nD τ) none) Set.univ (.op (.enqueueDma (xAt ox hox) (.here (sAt os hos)) (.dma (cell6 cc0_scratch2 oc hoc)) h1 h2 h3) k) R := by
  subst ex es ec
  unfold Inv
  iintro ⟨⟨HX, HO, HP, HS, HQ⟩, Hk⟩
  ihave H := (focus (hX c X) σ.xs b false hx) $$ HX
  icases H with ⟨Hb, HX⟩
  ihave H := (focus (hS c X G) σ.sl s (.inn b) hs) $$ HS
  icases H with ⟨Hs, HS⟩
  unfold hX hS sAny xHas z fl
  icases Hs with ⟨⟨%f, Hs⟩, Hi, Hu⟩
  iapply (wp_dmaLocal countersEmb 𝒱 (c.tc : Thread nD τ) none () nIn rfl nIn_pos subset_rfl (hsrc := h1) (hdst := h2) (hsem := h3)) $$ [Hb Hs Hi]
  · isplitl [Hb]; · iexact Hb
    isplitl [Hs]; · iexact Hs
    iexact Hi
  iintro Hf
  iapply Hk
  isplitl [HX]
  · iapply HX; iempintro
  isplitl [HO]; · iexact HO
  isplitl [HP]; · iexact HP
  isplitr [HQ]
  · iapply HS
    isplitl [Hf]
    · iapply (Flight_mono countersEmb (c.tc : Thread nD τ) ?_) $$ Hf
      unfold sHas
      iintro ⟨Hd, Hb⟩
      isplitl [Hd]
      · iexists _; isplitr; swap
        · iexact Hd
        ipureintro
        exact View.read_write_univ _ _
      · iexact Hb
    · iexact Hu
  · iexact HQ

/-- The wait for a block of `x` arriving in a slot of the ring: the block is in hand again, the slot reads it. -/
theorem waitIn {R : α → sProp 𝕄} (σ : St) (s : Fin 6) (b : Fin 64) (hs : σ.sl s = .inn b) (hx : σ.xs b = false) {os : Fin 3 → ℕ} {oc : Fin 1 → ℕ}
    (es : os = ![s.val, 0, 0]) (ec : oc = ![s.val]) {ox hox hos hoc h1 h2} :
    iprop(Inv c X P O G σ ∗ idle (F := F) c ∗ ((Inv c X P O G (σ.waitIn s b) ∗ idle (F := F) c) -∗ wp frame (wpE defs₀ 𝒱 (c.tc : Thread nD τ) none) Set.univ (k ⟨⟩) R))
      ⊢ wp frame (wpE defs₀ 𝒱 (c.tc : Thread nD τ) none) Set.univ (.op (.waitDma2 (cell6 cc0_scratch2 oc hoc) (xAt ox hox) (sAt os hos) h1 h2) k) R := by
  subst es ec
  unfold Inv idle
  iintro ⟨⟨HX, HO, HP, HS, HQ⟩, ⟨%W, Hw⟩, Hk⟩
  ihave H := (focus (hX c X) σ.xs b true hx) $$ HX
  icases H with ⟨-, HX⟩
  ihave H := (focus (hS c X G) σ.sl s (.loaded b) hs) $$ HS
  icases H with ⟨Hs, HS⟩
  unfold hX hS z fl
  icases Hs with ⟨Hf, Hu⟩
  iapply (wp_waitLocal countersEmb 𝒱 (c.tc : Thread nD τ) none () (N := nIn) (srcw := xAt ox hox) (dstw := sAt _ hos) (hsrc := h1) (hdst := h2) rfl) $$ [Hf Hw]
  · isplitl [Hf]; · iexact Hf
    iexact Hw
  iintro ⟨⟨Hs, Hb⟩, Hi, Hw⟩
  iapply Hk
  isplitr [Hw]
  · isplitl [HX Hb]
    · iapply HX; iexact Hb
    isplitl [HO]; · iexact HO
    isplitl [HP]; · iexact HP
    isplitr [HQ]
    · iapply HS
      isplitl [Hs]; · iexact Hs
      isplitl [Hi]; · iexact Hi
      iexact Hu
    · iexact HQ
  · iexists _; iexact Hw

/-- A block of the table in hand sets out for a slot of the pair with nothing arriving. -/
theorem startPos {R : α → sProp 𝕄} (σ : St) (s : Fin 2) (i : Fin 16) (hs : ∀ i, σ.pl s ≠ .inn i) (hp : σ.ps i = true) {op : Fin 2 → ℕ} {os : Fin 3 → ℕ} {oc : Fin 1 → ℕ}
    (ep : op = ![512 * i.val, 0]) (es : os = ![s.val, 0, 0]) (ec : oc = ![s.val]) {hop hos hoc h1 h2 h3} :
    iprop(Inv c X P O G σ ∗ (Inv c X P O G (σ.startPos s i) -∗ wp frame (wpE defs₀ 𝒱 (c.tc : Thread nD τ) none) Set.univ (k ⟨⟩) R))
      ⊢ wp frame (wpE defs₀ 𝒱 (c.tc : Thread nD τ) none) Set.univ (.op (.enqueueDma (pAt op hop) (.here (qAt os hos)) (.dma (cell2 cc0_scratch4 oc hoc)) h1 h2 h3) k) R := by
  subst ep es ec
  have any : hQ c P s (σ.pl s) ⊢ iprop(qAny (F := F) c s ∗ z c (posC s)) := by
    unfold hQ qAny qHas
    cases h : σ.pl s with
    | free => exact .rfl
    | inn i => exact absurd h (hs i)
    | held i =>
      iintro ⟨⟨%f, -, H⟩, Hz⟩
      isplitl [H]
      · iexists f; iexact H
      · iexact Hz
  unfold Inv
  iintro ⟨⟨HX, HO, HP, HS, HQ⟩, Hk⟩
  ihave H := (focus (hP c P) σ.ps i false hp) $$ HP
  icases H with ⟨Hb, HP⟩
  ihave H := (focus (hQ c P) σ.pl s (.inn i) rfl) $$ HQ
  icases H with ⟨Hs, HQ⟩
  ihave Hs := any $$ Hs
  unfold hP hQ qAny pHas z fl
  icases Hs with ⟨⟨%f, Hs⟩, Hi⟩
  iapply (wp_dmaLocal countersEmb 𝒱 (c.tc : Thread nD τ) none () nPos rfl nPos_pos subset_rfl (hsrc := h1) (hdst := h2) (hsem := h3)) $$ [Hb Hs Hi]
  · isplitl [Hb]; · iexact Hb
    isplitl [Hs]; · iexact Hs
    iexact Hi
  iintro Hf
  iapply Hk
  isplitl [HX]; · iexact HX
  isplitl [HO]; · iexact HO
  isplitl [HP]
  · iapply HP; iempintro
  isplitl [HS]; · iexact HS
  iapply HQ
  iapply (Flight_mono countersEmb (c.tc : Thread nD τ) ?_) $$ Hf
  unfold qHas
  iintro ⟨Hd, Hb⟩
  isplitl [Hd]
  · iexists _; isplitr; swap
    · iexact Hd
    ipureintro
    exact View.read_write_univ _ _
  · iexact Hb

/-- The wait for a block of the table arriving in a slot of the pair. -/
theorem waitPos {R : α → sProp 𝕄} (σ : St) (s : Fin 2) (i : Fin 16) (hs : σ.pl s = .inn i) (hp : σ.ps i = false) {os : Fin 3 → ℕ} {oc : Fin 1 → ℕ}
    (es : os = ![s.val, 0, 0]) (ec : oc = ![s.val]) {op hop hos hoc h1 h2} :
    iprop(Inv c X P O G σ ∗ idle (F := F) c ∗ ((Inv c X P O G (σ.waitPos s i) ∗ idle (F := F) c) -∗ wp frame (wpE defs₀ 𝒱 (c.tc : Thread nD τ) none) Set.univ (k ⟨⟩) R))
      ⊢ wp frame (wpE defs₀ 𝒱 (c.tc : Thread nD τ) none) Set.univ (.op (.waitDma2 (cell2 cc0_scratch4 oc hoc) (pAt op hop) (qAt os hos) h1 h2) k) R := by
  subst es ec
  unfold Inv idle
  iintro ⟨⟨HX, HO, HP, HS, HQ⟩, ⟨%W, Hw⟩, Hk⟩
  ihave H := (focus (hP c P) σ.ps i true hp) $$ HP
  icases H with ⟨-, HP⟩
  ihave H := (focus (hQ c P) σ.pl s (.held i) hs) $$ HQ
  icases H with ⟨Hf, HQ⟩
  unfold hP hQ z fl
  iapply (wp_waitLocal countersEmb 𝒱 (c.tc : Thread nD τ) none () (N := nPos) (srcw := pAt op hop) (dstw := qAt _ hos) (hsrc := h1) (hdst := h2) rfl) $$ [Hf Hw]
  · isplitl [Hf]; · iexact Hf
    iexact Hw
  iintro ⟨⟨Hs, Hb⟩, Hi, Hw⟩
  iapply Hk
  isplitr [Hw]
  · isplitl [HX]; · iexact HX
    isplitl [HO]; · iexact HO
    isplitl [HP Hb]
    · iapply HP; iexact Hb
    isplitl [HS]; · iexact HS
    iapply HQ
    isplitl [Hs]; · iexact Hs
    iexact Hi
  · iexists _; iexact Hw

/-- Writing through a view what the contents `g` read there makes the buffer agree with `g` on the view's elements. -/
theorem write_read_of {sp : Space} {sh : Shape} {e : EltTy} (v : View sig .tc sp sh e) (f g : v.ty.Contents (Elt F)) {w : sh.Idx → Elt F e}
    (hw : w = v.read (Elt F) g) : ∀ i ∈ v.set, v.write (Elt F) f w Finset.univ i = g i := by
  subst hw
  intro i hi
  obtain ⟨x, -, rfl⟩ := Finset.mem_map.mp hi
  rw [View.write_emb_of_mem _ _ (Finset.mem_univ x), View.read_apply]
  simp

/-- A slot holding a block's sum sets out for that block of the result. -/
theorem startOut {R : α → sProp 𝕄} (σ : St) (s : Fin 6) (b : Fin 64) (hs : σ.sl s = .summed b) (ho : σ.os b = .old) {oo : Fin 2 → ℕ} {os : Fin 3 → ℕ} {oc : Fin 1 → ℕ}
    (eo : oo = ![512 * b.val, 0]) (es : os = ![s.val, 0, 0]) (ec : oc = ![s.val]) {hoo hos hoc h1 h2 h3} :
    iprop(Inv c X P O G σ ∗ (Inv c X P O G (σ.startOut s b) -∗ wp frame (wpE defs₀ 𝒱 (c.tc : Thread nD τ) none) Set.univ (k ⟨⟩) R))
      ⊢ wp frame (wpE defs₀ 𝒱 (c.tc : Thread nD τ) none) Set.univ (.op (.enqueueDma (sAt os hos) (.here (oAt oo hoo)) (.dma (cell6 cc0_scratch3 oc hoc)) h1 h2 h3) k) R := by
  subst eo es ec
  unfold Inv
  iintro ⟨⟨HX, HO, HP, HS, HQ⟩, Hk⟩
  ihave H := (focus (hO c O G) σ.os b .away ho) $$ HO
  icases H with ⟨Hb, HO⟩
  ihave H := (focus (hS c X G) σ.sl s (.out b) hs) $$ HS
  icases H with ⟨Hs, HS⟩
  unfold hO hS sHas oHas z fl
  icases Hs with ⟨⟨%f, %hf, Hs⟩, Hi, Hu⟩
  iapply (wp_dmaLocal countersEmb 𝒱 (c.tc : Thread nD τ) none () nOut rfl nOut_pos subset_rfl (hsrc := h1) (hdst := h2) (hsem := h3)) $$ [Hb Hs Hu]
  · isplitl [Hs]; · iexact Hs
    isplitl [Hb]; · iexact Hb
    iexact Hu
  iintro Hf
  iapply Hk
  isplitl [HX]; · iexact HX
  isplitl [HO]
  · iapply HO; iempintro
  isplitl [HP]; · iexact HP
  isplitr [HQ]
  · iapply HS
    isplitl [Hf]
    · iapply (Flight_mono countersEmb (c.tc : Thread nD τ) ?_) $$ Hf
      unfold sAny
      iintro ⟨Hd, Hs⟩
      isplitl [Hd]
      · iapply (Entails.of_eq (pointsTo_congr (write_read_of (oM b).view _ G hf))) $$ Hd
      · iexists _; iexact Hs
    · iexact Hi
  · iexact HQ

/-- The wait for a slot of the ring leaving for a block of the result: the block is written, the slot free. -/
theorem waitOut {R : α → sProp 𝕄} (σ : St) (s : Fin 6) (b : Fin 64) (hs : σ.sl s = .out b) (ho : σ.os b = .away) {oc : Fin 1 → ℕ}
    (ec : oc = ![s.val]) {os hos oo hoo hoc h1 h2} :
    iprop(Inv c X P O G σ ∗ idle (F := F) c ∗ ((Inv c X P O G (σ.waitOut s b) ∗ idle (F := F) c) -∗ wp frame (wpE defs₀ 𝒱 (c.tc : Thread nD τ) none) Set.univ (k ⟨⟩) R))
      ⊢ wp frame (wpE defs₀ 𝒱 (c.tc : Thread nD τ) none) Set.univ (.op (.waitDma2 (cell6 cc0_scratch3 oc hoc) (sAt os hos) (oAt oo hoo) h1 h2) k) R := by
  subst ec
  unfold Inv idle
  iintro ⟨⟨HX, HO, HP, HS, HQ⟩, ⟨%W, Hw⟩, Hk⟩
  ihave H := (focus (hO c O G) σ.os b .done ho) $$ HO
  icases H with ⟨-, HO⟩
  ihave H := (focus (hS c X G) σ.sl s .free hs) $$ HS
  icases H with ⟨Hs, HS⟩
  unfold hO hS z fl
  icases Hs with ⟨Hf, Hi⟩
  iapply (wp_waitLocal countersEmb 𝒱 (c.tc : Thread nD τ) none () (N := nOut) (srcw := sAt os hos) (dstw := oAt oo hoo) (hsrc := h1) (hdst := h2) rfl) $$ [Hf Hw]
  · isplitl [Hf]; · iexact Hf
    iexact Hw
  iintro ⟨⟨Hb, Hs⟩, Hu, Hw⟩
  iapply Hk
  isplitr [Hw]
  · isplitl [HX]; · iexact HX
    isplitl [HO Hb]
    · iapply HO; iexact Hb
    isplitl [HP]; · iexact HP
    isplitr [HQ]
    · iapply HS
      isplitl [Hs]; · iexact Hs
      isplitl [Hi]; · iexact Hi
      iexact Hu
    · iexact HQ
  · iexists _; iexact Hw

/-- A slot read with its axis dropped is the box read and the axis dropped from what is read. -/
theorem read_sAt (off : Fin 3 → ℕ) (h) (f : Buf (Elt F) ((c.tc : Thread nD τ).loc cc0_scratch0)) :
    (sAt off h).view.read (Elt F) f
      = shapeCast S512x2048 ((sBox off h).view.read (Elt F) f) shapeCasts_S1x512x2048_S512x2048 := rfl
theorem read_qAt (off : Fin 3 → ℕ) (h) (f : Buf (Elt F) ((c.tc : Thread nD τ).loc cc0_scratch1)) :
    (qAt off h).view.read (Elt F) f
      = shapeCast S512x2048 ((qBox off h).view.read (Elt F) f) shapeCasts_S1x512x2048_S512x2048 := rfl

/-- The block's sum with the table's block, made in the slot by two loads and a store. -/
theorem add {R : α → sProp 𝕄} (σ : St) (s : Fin 6) (q : Fin 2) (b : Fin 64) (hs : σ.sl s = .loaded b) (hq : σ.pl q = .held (pb b))
    (hG : gv c G b = addf (xv c X b) (pv c P (pb b))) {os oq : Fin 3 → ℕ}
    (es : os = ![s.val, 0, 0]) (eq : oq = ![q.val, 0, 0]) {hos hoq h1 h2 h3 h4 h5} :
    iprop(Inv c X P O G σ ∗ (Inv c X P O G (σ.add s b) -∗ wp frame (wpE defs₀ 𝒱 (c.tc : Thread nD τ) none) Set.univ (k ⟨⟩) R))
      ⊢ wp frame (wpE defs₀ 𝒱 (c.tc : Thread nD τ) none) Set.univ (.op (.load (Memref.whole cc0_scratch0 : Memref sig .tc .vmem S6x512x2048 .f32) (Rect.unit (s := S6x512x2048) os S1x512x2048.size hos).toLoadRect h1) fun v =>
          .op (.load (Memref.whole cc0_scratch1 : Memref sig .tc .vmem S2x512x2048 .f32) (Rect.unit (s := S2x512x2048) oq S1x512x2048.size hoq).toLoadRect h2) fun w =>
          .op (.load (Memref.whole cc0_scratch0 : Memref sig .tc .vmem S6x512x2048 .f32) (Rect.unit (s := S6x512x2048) os S1x512x2048.size hos).toLoadRect h3) fun _ =>
          .op (.store (Memref.whole cc0_scratch0 : Memref sig .tc .vmem S6x512x2048 .f32) (Rect.unit (s := S6x512x2048) os S1x512x2048.size hos) (k0_pay1 v w) Finset.univ h4 h5) k) R := by
  subst es eq
  have hsub : ∀ (s : Fin 6) h, ((Memref.whole cc0_scratch0 : Memref sig .tc .vmem S6x512x2048 .f32).access
      (Rect.unit (s := S6x512x2048) ![s.val, 0, 0] S1x512x2048.size h)).set = (sM s).view.set := fun s h => (View.set_reshape _ _).symm
  have hsubq : ((Memref.whole cc0_scratch1 : Memref sig .tc .vmem S2x512x2048 .f32).access
      (Rect.unit (s := S2x512x2048) ![q.val, 0, 0] S1x512x2048.size hoq)).set = (qM q).view.set := (View.set_reshape _ _).symm
  unfold Inv
  iintro ⟨⟨HX, HO, HP, HS, HQ⟩, Hk⟩
  ihave H := (focus (hS c X G) σ.sl s (.summed b) hs) $$ HS
  icases H with ⟨Hs, HS⟩
  ihave H := (focus (hQ c P) σ.pl q (.held (pb b)) hq) $$ HQ
  icases H with ⟨Hq, HQ⟩
  unfold hS hQ sHas qHas
  icases Hs with ⟨⟨%f, %hf, Hs⟩, Hi, Hu⟩
  icases Hq with ⟨⟨%g, %hg, Hq⟩, Hz⟩
  iapply (wp_load_rect 𝒱 (c.tc : Thread nD τ) none Set.univ (Γ := .nil) (hsub s hos).subset) $$ Hs
  iintro Hs
  iapply (wp_load_rect 𝒱 (c.tc : Thread nD τ) none Set.univ (Γ := .nil) hsubq.subset) $$ Hq
  iintro Hq
  iapply (wp_load_rect 𝒱 (c.tc : Thread nD τ) none Set.univ (Γ := .nil) (hsub s hos).subset) $$ Hs
  iintro Hs
  iapply (wp_store 𝒱 (c.tc : Thread nD τ) none Set.univ (Γ := .nil) (hsub s hos).subset) $$ Hs
  iintro Hs
  iapply Hk
  ihave HQ := HQ $$ [Hq Hz]
  · isplitl [Hq]
    · iexists g; isplitr; · ipureintro; exact hg
      iexact Hq
    · iexact Hz
  rw [show Function.update σ.pl q (.held (pb b)) = σ.pl from Function.update_eq_self_iff.mpr hq.symm]
  isplitl [HX]; · iexact HX
  isplitl [HO]; · iexact HO
  isplitl [HP]; · iexact HP
  isplitr [HQ]; swap; · iexact HQ
  iapply HS
  isplitr [Hi Hu]; swap
  · isplitl [Hi]; · iexact Hi
    iexact Hu
  iexists _; isplitr; swap
  · iexact Hs
  ipureintro
  rw [hG, ← hf, ← hg, read_sAt (c := c), read_sAt (c := c), read_qAt (c := c)]
  refine (congrArg (fun v => shapeCast S512x2048 v shapeCasts_S1x512x2048_S512x2048) (View.read_write_univ _ _)).trans ?_
  exact shapeCast_shapeCast _ _ _

end Moves

end Cert.Ring

end
-- ==== Proof.Body.lean ====
/- The kernel's body at a grid point, run from the state before the point to the state before the next. -/
module

public import proofs.«01_k».proof.Proof.Moves

@[expose] public section

set_option maxRecDepth 65536

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! ## The kernel's offsets and conditions, as functions of the point -/

theorem off4 : ∀ i : grid0.Coords, k0_off4 i = ![512 * (bk (i 0).val).val, 0] := by decide +kernel
theorem off5 : ∀ i : grid0.Coords, k0_off5 i = ![(qk (i 0).val).val] := by decide +kernel
theorem off6 : ∀ i : grid0.Coords, k0_off6 i = ![(qk (i 0).val).val, 0, 0] := by decide +kernel
theorem off9 : ∀ i : grid0.Coords, k0_off9 i = ![(qk (i 0).val).val, 0, 0] := by decide +kernel
theorem off10 : ∀ i : grid0.Coords, k0_cond4 i = 1#1 → k0_off10 i = ![(sk ((i 0).val + 3)).val] := by decide +kernel
theorem off15 : ∀ i : grid0.Coords, k0_off15 i = ![512 * (bk ((i 0).val + 3)).val, 0] := by decide +kernel
theorem off16 : ∀ i : grid0.Coords, k0_off16 i = ![(qk (i 0).val).val] := by decide +kernel
theorem off17 : ∀ i : grid0.Coords, k0_off17 i = ![(qk (i 0).val).val, 0, 0] := by decide +kernel
theorem off18 : ∀ i : grid0.Coords, k0_cond5 i = 1#1 → k0_off18 i = ![512 * (pk ((i 0).val + 8)).val, 0] := by decide +kernel
theorem cond1 : ∀ i : grid0.Coords, k0_cond1 i = 1#1 ↔ (i 0).val = 0 := by decide +kernel
theorem cond2 : ∀ i : grid0.Coords, k0_cond2 i = 1#1 ↔ (i 0).val % 4 = 0 := by decide +kernel
theorem cond3 : ∀ i : grid0.Coords, k0_cond3 i = 1#1 ↔ (i 0).val + 3 < 64 := by decide +kernel
theorem cond4 : ∀ i : grid0.Coords, k0_cond4 i = 1#1 ↔ 3 ≤ (i 0).val := by decide +kernel
theorem cond5 : ∀ i : grid0.Coords, k0_cond5 i = 1#1 ↔ (i 0).val % 4 = 3 ∧ (i 0).val / 4 + 2 < 16 := by decide +kernel
theorem cond6 : ∀ i : grid0.Coords, k0_cond6 i = 1#1 ↔ (i 0).val = 63 := by decide +kernel

section Body

variable {𝒱 : Variants} {c : Dev nD} {X : Buf (Elt F) ((c.tc : Thread nD τ).loc main_v0)} {P : Buf (Elt F) ((c.tc : Thread nD τ).loc main_arg1)}
  {O G : Buf (Elt F) ((c.tc : Thread nD τ).loc main_v1)}

/-- Everything held in a state, by a core that owes nothing. -/
def J (c : Dev nD) (X : Buf (Elt F) ((c.tc : Thread nD τ).loc main_v0)) (P : Buf (Elt F) ((c.tc : Thread nD τ).loc main_arg1))
    (O G : Buf (Elt F) ((c.tc : Thread nD τ).loc main_v1)) (σ : St) : sProp 𝕄 := iprop(Inv c X P O G σ ∗ idle (F := F) c)

/-- A move that needs only what the state holds leads on to the rest of the program. -/
theorem go {σ σ' : St} {A B : sProp 𝕄} (h : iprop(Inv c X P O G σ ∗ (Inv c X P O G σ' -∗ A)) ⊢ B) (hA : J c X P O G σ' ⊢ A) : J c X P O G σ ⊢ B := by
  refine BIBase.Entails.trans ?_ h
  unfold J at hA ⊢
  iintro ⟨H, Hi⟩
  isplitl [H]; · iexact H
  iintro H
  iapply hA
  isplitl [H]; · iexact H
  iexact Hi
/-- And so does a wait. -/
theorem goW {σ σ' : St} {A B : sProp 𝕄} (h : iprop(Inv c X P O G σ ∗ idle (F := F) c ∗ ((Inv c X P O G σ' ∗ idle (F := F) c) -∗ A)) ⊢ B)
    (hA : J c X P O G σ' ⊢ A) : J c X P O G σ ⊢ B := by
  refine BIBase.Entails.trans ?_ h
  unfold J at hA ⊢
  iintro ⟨H, Hi⟩
  isplitl [H]; · iexact H
  isplitl [Hi]; · iexact Hi
  iintro H
  iapply hA $$ H
/-- A finished program holds what it held. -/
theorem fin {α : Type} {A : sProp 𝕄} (r : α) :
    A ⊢ wp frame (wpE defs₀ 𝒱 (c.tc : Thread nD τ) none) Set.univ (pure r : Prog (TpuEff nD τ sig (Elt F) Λ₀ .tc) α) (fun _ => A) := by
  rw [wp_pure]
  iintro H
  imodintro
  iexact H

/-- A program that splits on a condition runs when each of its sides does. -/
theorem sides {α : Type} {R : α → sProp 𝕄} {A : sProp 𝕄} (p : Prop) [Decidable p] {f : p → Prog (TpuEff nD τ sig (Elt F) Λ₀ .tc) α}
    {g : ¬ p → Prog (TpuEff nD τ sig (Elt F) Λ₀ .tc) α}
    (hf : ∀ h, A ⊢ wp frame (wpE defs₀ 𝒱 (c.tc : Thread nD τ) none) Set.univ (f h) R)
    (hg : ∀ h, A ⊢ wp frame (wpE defs₀ 𝒱 (c.tc : Thread nD τ) none) Set.univ (g h) R) :
    A ⊢ wp frame (wpE defs₀ 𝒱 (c.tc : Thread nD τ) none) Set.univ (dite p f g) R := by
  by_cases h : p
  · rw [dif_pos h]; exact hf h
  · rw [dif_neg h]; exact hg h

/-- The transfers into the ring before the first sum. -/
theorem part1 (i : grid0.Coords) (h) (σ : St) (hσ : σ = at_ 0) :
    J c X P O G σ ⊢ wp frame (wpE defs₀ 𝒱 (c.tc : Thread nD τ) none) Set.univ
      (k0_part1 (F := F) i (Memref.whole main_v0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 h)
      (fun _ => J c X P O G (((σ.startIn 0 (bk 0)).startIn 1 (bk 1)).startIn 2 (bk 2))) := by
  rw [k0_part1_eq_skeleton]
  obtain ⟨⟨a1, a2⟩, ⟨b1, b2⟩, ⟨c1, c2⟩, -⟩ := first σ hσ
  refine go (startIn _ 0 (bk 0) a1 a2 (k0_off1_eq 0) rfl rfl) ?_
  refine go (startIn _ 1 (bk 1) b1 b2 (k0_off1_eq 1) rfl rfl) ?_
  refine go (startIn _ 2 (bk 2) c1 c2 (k0_off1_eq 2) rfl rfl) ?_
  exact fin _

/-- The first transfers, at the first point. -/
theorem part3 (i : grid0.Coords) :
    J c X P O G (at_ (i 0).val) ⊢ wp frame (wpE defs₀ 𝒱 (c.tc : Thread nD τ) none) Set.univ
      (k0_part3 (F := F) i (Memref.whole main_v0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4)
      (fun _ => J c X P O G (sA (i 0).val)) := by
  rw [k0_part3_eq_skeleton]
  unfold k0_part3_skel sA stA
  by_cases h : k0_cond1 i = 1#1
  · rw [dif_pos h]
    have hn := (cond1 i).mp h
    rw [if_pos hn]
    obtain ⟨-, -, -, ⟨a1, a2⟩, b1, b2⟩ := first _ (congrArg at_ hn)
    rw [wp_bind]
    refine BIBase.Entails.trans (part1 i h _ (congrArg at_ hn)) (wp_mono _ _ _ fun _ => ?_)
    refine go (startPos _ 0 0 a1 a2 rfl rfl rfl) ?_
    refine go (startPos _ 1 1 b1 b2 rfl rfl rfl) ?_
    exact fin _
  · rw [dif_neg h, if_neg fun h' => h ((cond1 i).mpr h')]
    exact fin _

/-- The waits for the block of `x` and of the table, and the sum. -/
theorem part4 (i : grid0.Coords) (hG : ∀ b, gv c G b = addf (xv c X b) (pv c P (pb b))) (v1 v2 v3 v4 v5 v6 v7 v8 v9 v10) :
    J c X P O G (sA (i 0).val) ⊢ wp frame (wpE defs₀ 𝒱 (c.tc : Thread nD τ) none) Set.univ
      (k0_part4 (F := F) i (Memref.whole main_v0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4
        v1 v2 v3 v4 v5 v6 v7 v8 v9 v10)
      (fun _ => J c X P O G (sD (i 0).val)) := by
  rw [k0_part4_eq_skeleton]
  unfold k0_part4_skel
  refine goW (waitIn _ (sk (i 0).val) (bk (i 0).val) (sA_sl (i 0)) (sA_xs (i 0)) (k0_off3_eq i) (k0_off2_eq i)) ?_
  show J c X P O G (sB (i 0).val) ⊢ _
  by_cases h : k0_cond2 i = 1#1
  · rw [dif_pos h]
    have hn := (cond2 i).mp h
    refine goW (waitPos _ (qk (i 0).val) (pk (i 0).val) (sB_pl (i 0) hn) (sB_ps (i 0) hn) (off6 i) (off5 i)) ?_
    rw [show (sB (i 0).val).waitPos (qk (i 0).val) (pk (i 0).val) = sC (i 0).val from (if_pos hn).symm]
    refine go (add _ (sk (i 0).val) (qk (i 0).val) (bk (i 0).val) (sC_sl (i 0)) (sC_pl (i 0)) (hG _) (k0_off8_eq i) (off9 i)) ?_
    exact fin _
  · rw [dif_neg h]
    rw [show sB (i 0).val = sC (i 0).val from (if_neg fun h' => h ((cond2 i).mpr h')).symm]
    refine go (add _ (sk (i 0).val) (qk (i 0).val) (bk (i 0).val) (sC_sl (i 0)) (sC_pl (i 0)) (hG _) (k0_off8_eq i) (off9 i)) ?_
    exact fin _

/-- Three points ahead: the slot emptied if it has been used, and refilled, while there is such a point. -/
theorem stageG (i : grid0.Coords) {α : Type} {R : α → sProp 𝕄} {K : Prog (TpuEff nD τ sig (Elt F) Λ₀ .tc) α}
    (hK : J c X P O G (sG (i 0).val) ⊢ wp frame (wpE defs₀ 𝒱 (c.tc : Thread nD τ) none) Set.univ K R) :
    J c X P O G (sE (i 0).val) ⊢ wp frame (wpE defs₀ 𝒱 (c.tc : Thread nD τ) none) Set.univ
      (if k3 : k0_cond3 i = 1#1 then
        (if k4 : k0_cond4 i = 1#1 then
          .op (.waitDma2 (cell6 cc0_scratch3 (k0_off10 i) (k0_off10_inb i k3 k4)) (sAt (k0_off12 i) (k0_off12_inb i k3 k4)) (oAt (k0_off11 i) (k0_off11_inb i k3 k4)) ((View.wordExact_bits rfl).reshape _ _) (View.wordExact_bits rfl)) fun _ =>
          .op (.enqueueDma (xAt (k0_off15 i) (k0_off15_inb i k3)) (.here (sAt (k0_off14 i) (k0_off14_inb i k3))) (.dma (cell6 cc0_scratch2 (k0_off13 i) (k0_off13_inb i k3))) (View.wordExact_bits rfl) ((View.wordExact_bits rfl).reshape _ _) ⟨Or.inl rfl, trivial⟩) fun _ => K
        else
          .op (.enqueueDma (xAt (k0_off15 i) (k0_off15_inb i k3)) (.here (sAt (k0_off14 i) (k0_off14_inb i k3))) (.dma (cell6 cc0_scratch2 (k0_off13 i) (k0_off13_inb i k3))) (View.wordExact_bits rfl) ((View.wordExact_bits rfl).reshape _ _) ⟨Or.inl rfl, trivial⟩) fun _ => K)
      else K) R := by
  by_cases k3 : k0_cond3 i = 1#1
  · rw [dif_pos k3]
    have hn := (cond3 i).mp k3
    have e : sG (i 0).val = (stF (i 0).val (sE (i 0).val)).startIn (sk ((i 0).val + 3)) (bk ((i 0).val + 3)) := if_pos hn
    rw [e] at hK
    by_cases k4 : k0_cond4 i = 1#1
    · rw [dif_pos k4]
      have hm := (cond4 i).mp k4
      refine goW (waitOut _ (sk ((i 0).val + 3)) (bk ((i 0).val - 3)) (sE_sl (i 0) hn hm) (sE_os (i 0) hn hm) (off10 i k4)) ?_
      rw [show (sE (i 0).val).waitOut (sk ((i 0).val + 3)) (bk ((i 0).val - 3)) = stF (i 0).val (sE (i 0).val) from (if_pos hm).symm]
      exact go (startIn _ (sk ((i 0).val + 3)) (bk ((i 0).val + 3)) (sF_sl (i 0) hn) (sF_xs (i 0) hn) (off15 i) (k0_off14_eq i) (k0_off13_eq i)) hK
    · rw [dif_neg k4]
      have hm : stF (i 0).val (sE (i 0).val) = sE (i 0).val := if_neg fun h' => k4 ((cond4 i).mpr h')
      refine go (startIn _ (sk ((i 0).val + 3)) (bk ((i 0).val + 3)) ?_ ?_ (off15 i) (k0_off14_eq i) (k0_off13_eq i)) (hm ▸ hK)
      · exact hm ▸ sF_sl (i 0) hn
      · exact hm ▸ sF_xs (i 0) hn
  · rw [dif_neg k3]
    rw [show sG (i 0).val = sE (i 0).val from if_neg fun h' => k3 ((cond3 i).mpr h')] at hK
    exact hK

/-- The table's block after the next sets out, at the last point of each four. -/
theorem stageH (i : grid0.Coords) {α : Type} {R : α → sProp 𝕄} {K : Prog (TpuEff nD τ sig (Elt F) Λ₀ .tc) α}
    (hK : J c X P O G (sH (i 0).val) ⊢ wp frame (wpE defs₀ 𝒱 (c.tc : Thread nD τ) none) Set.univ K R) :
    J c X P O G (sG (i 0).val) ⊢ wp frame (wpE defs₀ 𝒱 (c.tc : Thread nD τ) none) Set.univ
      (if k5 : k0_cond5 i = 1#1 then
        .op (.enqueueDma (pAt (k0_off18 i) (k0_off18_inb i k5)) (.here (qAt (k0_off17 i) (k0_off17_inb i k5))) (.dma (cell2 cc0_scratch4 (k0_off16 i) (k0_off16_inb i k5))) (View.wordExact_bits rfl) ((View.wordExact_bits rfl).reshape _ _) ⟨Or.inl rfl, trivial⟩) fun _ => K
      else K) R := by
  by_cases k5 : k0_cond5 i = 1#1
  · rw [dif_pos k5]
    have hn := (cond5 i).mp k5
    rw [show sH (i 0).val = (sG (i 0).val).startPos (qk (i 0).val) (pk ((i 0).val + 8)) from if_pos hn] at hK
    exact go (startPos _ (qk (i 0).val) (pk ((i 0).val + 8)) (sG_pl (i 0) hn) (sG_ps (i 0) hn) (off18 i k5) (off17 i) (off16 i)) hK
  · rw [dif_neg k5]
    rw [show sH (i 0).val = sG (i 0).val from if_neg fun h' => k5 ((cond5 i).mpr h')] at hK
    exact hK

/-- The first three of the last waits. -/
theorem part2 (i : grid0.Coords) (h) (σ : St) (hσ : σ = sH 63) :
    J c X P O G σ ⊢ wp frame (wpE defs₀ 𝒱 (c.tc : Thread nD τ) none) Set.univ
      (k0_part2 (F := F) i (Memref.whole main_v0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 h)
      (fun _ => J c X P O G (((σ.waitOut 4 (bk 58)).waitOut 5 (bk 59)).waitOut 0 (bk 60))) := by
  rw [k0_part2_eq_skeleton]
  obtain ⟨⟨a1, a2⟩, ⟨b1, b2⟩, ⟨c1, c2⟩, -⟩ := last σ hσ
  refine goW (waitOut _ 4 (bk 58) a1 a2 rfl) ?_
  refine goW (waitOut _ 5 (bk 59) b1 b2 rfl) ?_
  refine goW (waitOut _ 0 (bk 60) c1 c2 rfl) ?_
  exact fin _

/-- The body at a point leads from the state before it to the state before the next. -/
theorem body (i : grid0.Coords) (hG : ∀ b, gv c G b = addf (xv c X b) (pv c P (pb b))) :
    J c X P O G (at_ (i 0).val) ⊢ wp frame (wpE defs₀ 𝒱 (c.tc : Thread nD τ) none) Set.univ
      (cc0__lambda_ (F := F) i (Memref.whole main_v0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4)
      (fun _ => J c X P O G (at_ ((i 0).val + 1))) := by
  rw [cc0__lambda__eq_skeleton, ← step (i 0)]
  unfold cc0__lambda__skel
  rw [wp_bind]
  refine BIBase.Entails.trans (part3 i) (wp_mono _ _ _ fun r3 => ?_)
  rw [wp_bind]
  refine BIBase.Entails.trans (part4 i hG _ _ _ _ _ _ _ _ _ _) (wp_mono _ _ _ fun r4 => ?_)
  refine go (startOut _ (sk (i 0).val) (bk (i 0).val) (sD_sl (i 0)) (sD_os (i 0)) (off4 i) (k0_off3_eq i) (k0_off2_eq i)) ?_
  show J c X P O G (sE (i 0).val) ⊢ _
  refine stageG i ?_
  refine stageH i ?_
  refine sides (k0_cond6 i = 1#1) (fun h => ?_) (fun h => ?_)
  · have hn := (cond6 i).mp h
    rw [wp_bind]
    obtain ⟨-, -, -, ⟨a1, a2⟩, ⟨b1, b2⟩, c1, c2⟩ := last _ (congrArg sH hn)
    refine BIBase.Entails.trans (part2 i h _ (congrArg sH hn)) (wp_mono _ _ _ fun r2 => ?_)
    rw [show sI (i 0).val = _ from if_pos hn]
    refine goW (waitOut _ 1 (bk 61) a1 a2 rfl) ?_
    refine goW (waitOut _ 2 (bk 62) b1 b2 rfl) ?_
    refine goW (waitOut _ 3 (bk 63) c1 c2 rfl) ?_
    exact fin _
  · rw [show sI (i 0).val = sH (i 0).val from if_neg fun h' => h ((cond6 i).mpr h')]
    exact fin _

end Body

end Cert.Ring

end
-- ==== Proof.Around.lean ====
/- The whole program: the buffers cut into blocks for the body's run, joined again after it, and the program's run. -/
module

public import proofs.«01_k».proof.Proof.Body
public import Idealize.ShloMosaic.Lib.Pipeline.FrameSuffixV

@[expose] public section

set_option maxRecDepth 16384

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! ## Buffers and their blocks -/

/-- The elements of block `b` of `x` are those of its rectangle; likewise below. -/
theorem xM_set (b : Fin 64) : (xM b).view.set = (Rect.unit (s := S32768x2048) ![512 * b.val, 0] S512x2048.size (inb_x b)).set := View.set_slice_whole _ _
theorem oM_set (b : Fin 64) : (oM b).view.set = (Rect.unit (s := S32768x2048) ![512 * b.val, 0] S512x2048.size (inb_x b)).set := View.set_slice_whole _ _
theorem pM_set (i : Fin 16) : (pM i).view.set = (Rect.unit (s := S8192x2048) ![512 * i.val, 0] S512x2048.size (inb_p i)).set := View.set_slice_whole _ _
theorem sM_set (s : Fin 6) : (sM s).view.set = (Rect.unit (s := S6x512x2048) ![s.val, 0, 0] S1x512x2048.size (inb_s s)).set :=
  (View.set_reshape _ _).trans (View.set_slice_whole _ _)
theorem qM_set (s : Fin 2) : (qM s).view.set = (Rect.unit (s := S2x512x2048) ![s.val, 0, 0] S1x512x2048.size (inb_q s)).set :=
  (View.set_reshape _ _).trans (View.set_slice_whole _ _)

/-- The blocks of `x` and of the result, as sets of elements, are apart from one another and cover the buffer. -/
theorem blocks_x : (∀ b b' : Fin 64, b ≠ b' → Disjoint (Rect.unit (s := S32768x2048) ![512 * b.val, 0] S512x2048.size (inb_x b)).set (Rect.unit (s := S32768x2048) ![512 * b'.val, 0] S512x2048.size (inb_x b')).set)
    ∧ Finset.univ.biUnion (fun b : Fin 64 => (Rect.unit (s := S32768x2048) ![512 * b.val, 0] S512x2048.size (inb_x b)).set) = Finset.univ := by
  have h0 : ∀ b : Fin 64, (![512 * b.val, 0] : Fin S32768x2048.rank → ℕ) 0 = 512 * b.val := by decide +kernel
  have h1 : ∀ (b : Fin 64) (a : Fin S32768x2048.rank), a ≠ 0 → (![512 * b.val, 0] : Fin S32768x2048.rank → ℕ) a = 0 := by decide +kernel
  have h2 : S512x2048.size 0 = 512 := by decide +kernel
  have h3 : ∀ a : Fin S32768x2048.rank, a ≠ 0 → S512x2048.size a = S32768x2048.size a := by decide +kernel
  exact ⟨Ring.lead_disjoint (s := S32768x2048) 0 512 _ S512x2048.size inb_x h0 h2,
    Ring.lead_cover (s := S32768x2048) 0 512 _ S512x2048.size inb_x h0 h1 h2 h3 (by decide +kernel)⟩
/-- The blocks of the table likewise, -/
theorem blocks_p : (∀ b b' : Fin 16, b ≠ b' → Disjoint (Rect.unit (s := S8192x2048) ![512 * b.val, 0] S512x2048.size (inb_p b)).set (Rect.unit (s := S8192x2048) ![512 * b'.val, 0] S512x2048.size (inb_p b')).set)
    ∧ Finset.univ.biUnion (fun b : Fin 16 => (Rect.unit (s := S8192x2048) ![512 * b.val, 0] S512x2048.size (inb_p b)).set) = Finset.univ := by
  have h0 : ∀ b : Fin 16, (![512 * b.val, 0] : Fin S8192x2048.rank → ℕ) 0 = 512 * b.val := by decide +kernel
  have h1 : ∀ (b : Fin 16) (a : Fin S8192x2048.rank), a ≠ 0 → (![512 * b.val, 0] : Fin S8192x2048.rank → ℕ) a = 0 := by decide +kernel
  have h2 : S512x2048.size 0 = 512 := by decide +kernel
  have h3 : ∀ a : Fin S8192x2048.rank, a ≠ 0 → S512x2048.size a = S8192x2048.size a := by decide +kernel
  exact ⟨Ring.lead_disjoint (s := S8192x2048) 0 512 _ S512x2048.size inb_p h0 h2,
    Ring.lead_cover (s := S8192x2048) 0 512 _ S512x2048.size inb_p h0 h1 h2 h3 (by decide +kernel)⟩
/-- the slots of the ring, -/
theorem blocks_s : (∀ b b' : Fin 6, b ≠ b' → Disjoint (Rect.unit (s := S6x512x2048) ![b.val, 0, 0] S1x512x2048.size (inb_s b)).set (Rect.unit (s := S6x512x2048) ![b'.val, 0, 0] S1x512x2048.size (inb_s b')).set)
    ∧ Finset.univ.biUnion (fun b : Fin 6 => (Rect.unit (s := S6x512x2048) ![b.val, 0, 0] S1x512x2048.size (inb_s b)).set) = Finset.univ := by
  have h0 : ∀ b : Fin 6, (![b.val, 0, 0] : Fin S6x512x2048.rank → ℕ) 0 = 1 * b.val := by decide +kernel
  have h1 : ∀ (b : Fin 6) (a : Fin S6x512x2048.rank), a ≠ 0 → (![b.val, 0, 0] : Fin S6x512x2048.rank → ℕ) a = 0 := by decide +kernel
  have h2 : S1x512x2048.size 0 = 1 := by decide +kernel
  have h3 : ∀ a : Fin S6x512x2048.rank, a ≠ 0 → S1x512x2048.size a = S6x512x2048.size a := by decide +kernel
  exact ⟨Ring.lead_disjoint (s := S6x512x2048) 0 1 _ S1x512x2048.size inb_s h0 h2,
    Ring.lead_cover (s := S6x512x2048) 0 1 _ S1x512x2048.size inb_s h0 h1 h2 h3 (by decide +kernel)⟩
/-- and those of the pair. -/
theorem blocks_q : (∀ b b' : Fin 2, b ≠ b' → Disjoint (Rect.unit (s := S2x512x2048) ![b.val, 0, 0] S1x512x2048.size (inb_q b)).set (Rect.unit (s := S2x512x2048) ![b'.val, 0, 0] S1x512x2048.size (inb_q b')).set)
    ∧ Finset.univ.biUnion (fun b : Fin 2 => (Rect.unit (s := S2x512x2048) ![b.val, 0, 0] S1x512x2048.size (inb_q b)).set) = Finset.univ := by
  have h0 : ∀ b : Fin 2, (![b.val, 0, 0] : Fin S2x512x2048.rank → ℕ) 0 = 1 * b.val := by decide +kernel
  have h1 : ∀ (b : Fin 2) (a : Fin S2x512x2048.rank), a ≠ 0 → (![b.val, 0, 0] : Fin S2x512x2048.rank → ℕ) a = 0 := by decide +kernel
  have h2 : S1x512x2048.size 0 = 1 := by decide +kernel
  have h3 : ∀ a : Fin S2x512x2048.rank, a ≠ 0 → S1x512x2048.size a = S2x512x2048.size a := by decide +kernel
  exact ⟨Ring.lead_disjoint (s := S2x512x2048) 0 1 _ S1x512x2048.size inb_q h0 h2,
    Ring.lead_cover (s := S2x512x2048) 0 1 _ S1x512x2048.size inb_q h0 h1 h2 h3 (by decide +kernel)⟩

section Whole

variable (c : Dev nD) (X : Buf (Elt F) ((c.tc : Thread nD τ).loc main_v0)) (P : Buf (Elt F) ((c.tc : Thread nD τ).loc main_arg1))
  (O : Buf (Elt F) ((c.tc : Thread nD τ).loc main_v1))

/-- `x` held whole is its blocks held; the table and the result likewise. -/
theorem whole_x : (((c.tc : Thread nD τ).loc main_v0) ↦{fullShare} X : sProp 𝕄) = bigSep Finset.univ fun b => xHas c X b := by
  rw [Ring.pointsTo_blocks (fun b => (Rect.unit (s := S32768x2048) ![512 * b.val, 0] S512x2048.size (inb_x b)).set) blocks_x.1 blocks_x.2]
  refine bigSep_congr fun b _ => ?_
  unfold xHas
  rw [xM_set b]
theorem whole_o : (((c.tc : Thread nD τ).loc main_v1) ↦{fullShare} O : sProp 𝕄) = bigSep Finset.univ fun b => oHas c O b := by
  rw [Ring.pointsTo_blocks (fun b => (Rect.unit (s := S32768x2048) ![512 * b.val, 0] S512x2048.size (inb_x b)).set) blocks_x.1 blocks_x.2]
  refine bigSep_congr fun b _ => ?_
  unfold oHas
  rw [oM_set b]
theorem whole_p : (((c.tc : Thread nD τ).loc main_arg1) ↦{fullShare} P : sProp 𝕄) = bigSep Finset.univ fun b => pHas c P b := by
  rw [Ring.pointsTo_blocks (fun b => (Rect.unit (s := S8192x2048) ![512 * b.val, 0] S512x2048.size (inb_p b)).set) blocks_p.1 blocks_p.2]
  refine bigSep_congr fun b _ => ?_
  unfold pHas
  rw [pM_set b]

/-- A slot of the ring at some contents, spelt by its elements. -/
theorem sAny_eq (s : Fin 6) : sAny (F := F) c s = (iprop(∃ f, ((c.tc : Thread nD τ).loc cc0_scratch0) ↦[(Rect.unit (s := S6x512x2048) ![s.val, 0, 0] S1x512x2048.size (inb_s s)).set]{fullShare} f) : sProp 𝕄) := by
  unfold sAny
  rw [sM_set s]
/-- The ring held whole at some contents is its slots held, each at some contents, -/
theorem split_s : (iprop(∃ f, ((c.tc : Thread nD τ).loc cc0_scratch0) ↦{fullShare} f) : sProp 𝕄) ⊢ bigSep Finset.univ fun s => sAny (F := F) c s := by
  have h : ∀ f, (((c.tc : Thread nD τ).loc cc0_scratch0) ↦{fullShare} f : sProp 𝕄) ⊢ bigSep Finset.univ fun s => sAny (F := F) c s := fun f => by
    rw [Ring.pointsTo_blocks (fun b => (Rect.unit (s := S6x512x2048) ![b.val, 0, 0] S1x512x2048.size (inb_s b)).set) blocks_s.1 blocks_s.2]
    refine bigSep_mono fun s _ => ?_
    show _ ⊢ sAny (F := F) c s
    rw [sAny_eq]
    iintro H
    iexists f
    iexact H
  iintro ⟨%f, H⟩
  iapply (h f) $$ H
/-- and back. -/
theorem join_s [Nonempty (Buf (Elt F) ((c.tc : Thread nD τ).loc cc0_scratch0))] :
    bigSep Finset.univ (fun s => sAny (F := F) c s) ⊢ (iprop(∃ f, ((c.tc : Thread nD τ).loc cc0_scratch0) ↦{fullShare} f) : sProp 𝕄) := by
  refine BIBase.Entails.trans (bigSep_mono fun s _ => ?_) (Ring.pointsTo_blocks_join_exists
    (fun b => (Rect.unit (s := S6x512x2048) ![b.val, 0, 0] S1x512x2048.size (inb_s b)).set) blocks_s.1 blocks_s.2 (Classical.arbitrary _))
  exact Entails.of_eq (sAny_eq c s)
/-- A slot of the pair at some contents, spelt by its elements. -/
theorem qAny_eq (s : Fin 2) : qAny (F := F) c s = (iprop(∃ f, ((c.tc : Thread nD τ).loc cc0_scratch1) ↦[(Rect.unit (s := S2x512x2048) ![s.val, 0, 0] S1x512x2048.size (inb_q s)).set]{fullShare} f) : sProp 𝕄) := by
  unfold qAny
  rw [qM_set s]
/-- The pair likewise. -/
theorem split_q : (iprop(∃ f, ((c.tc : Thread nD τ).loc cc0_scratch1) ↦{fullShare} f) : sProp 𝕄) ⊢ bigSep Finset.univ fun s => qAny (F := F) c s := by
  have h : ∀ f, (((c.tc : Thread nD τ).loc cc0_scratch1) ↦{fullShare} f : sProp 𝕄) ⊢ bigSep Finset.univ fun s => qAny (F := F) c s := fun f => by
    rw [Ring.pointsTo_blocks (fun b => (Rect.unit (s := S2x512x2048) ![b.val, 0, 0] S1x512x2048.size (inb_q b)).set) blocks_q.1 blocks_q.2]
    refine bigSep_mono fun s _ => ?_
    show _ ⊢ qAny (F := F) c s
    rw [qAny_eq]
    iintro H
    iexists f
    iexact H
  iintro ⟨%f, H⟩
  iapply (h f) $$ H
theorem join_q [Nonempty (Buf (Elt F) ((c.tc : Thread nD τ).loc cc0_scratch1))] :
    bigSep Finset.univ (fun s => qAny (F := F) c s) ⊢ (iprop(∃ f, ((c.tc : Thread nD τ).loc cc0_scratch1) ↦{fullShare} f) : sProp 𝕄) := by
  refine BIBase.Entails.trans (bigSep_mono fun s _ => ?_) (Ring.pointsTo_blocks_join_exists
    (fun b => (Rect.unit (s := S2x512x2048) ![b.val, 0, 0] S1x512x2048.size (inb_q b)).set) blocks_q.1 blocks_q.2 (Classical.arbitrary _))
  exact Entails.of_eq (qAny_eq c s)

/-- The kernel's own cells. -/
def cells : Fin 6 ⊕ Fin 6 ⊕ Fin 2 → SemLoc sig
  | .inl s => .dma (inC s)
  | .inr (.inl s) => .dma (outC s)
  | .inr (.inr s) => .dma (posC s)

/-- They are the core's, each is another, and the pipeline uses none of them. -/
theorem cells_facts : Pipeline.OwnSemFacts cfg0.spec cells := by decide +kernel

/-- All at zero. -/
theorem cells_zero : (Pipeline.ownSems0 (Ix := Unit) (Name := ℕ) (U := Pipeline.UD sig nD τ) (Lvl := ℕ) (Val := Elt F) (τ := τ) cells c : sProp 𝕄)
    = iprop((bigSep Finset.univ fun s => z c (inC s)) ∗ (bigSep Finset.univ fun s => z c (outC s)) ∗ bigSep Finset.univ fun s => z c (posC s)) := by
  unfold Pipeline.ownSems0
  rw [bigSep_univ_sum, bigSep_univ_sum]
  rfl

end Whole

end Cert.Ring

end
-- ==== Proof.Run.lean ====
/- The kernel's whole run: what it is entered with and what it gives back, and the buffers after it. -/
module

public import proofs.«01_k».proof.Proof.Around

@[expose] public section

set_option maxRecDepth 65536

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! ## Entry and exit -/

section Ends

variable (c : Dev nD) (X : Buf (Elt F) ((c.tc : Thread nD τ).loc main_v0)) (P : Buf (Elt F) ((c.tc : Thread nD τ).loc main_arg1))
  (O G : Buf (Elt F) ((c.tc : Thread nD τ).loc main_v1))

/-- The buffers and cells of the kernel, with the result at `R`. -/
def ends (R : Buf (Elt F) ((c.tc : Thread nD τ).loc main_v1)) : sProp 𝕄 :=
  iprop((((c.tc : Thread nD τ).loc main_v0) ↦{fullShare} X) ∗ (((c.tc : Thread nD τ).loc main_arg1) ↦{fullShare} P)
    ∗ (((c.tc : Thread nD τ).loc main_v1) ↦{fullShare} R)
    ∗ ((∃ f, ((c.tc : Thread nD τ).loc cc0_scratch0) ↦{fullShare} f) ∗ (∃ f, ((c.tc : Thread nD τ).loc cc0_scratch1) ↦{fullShare} f))
    ∗ (bigSep Finset.univ fun s => z c (inC s)) ∗ (bigSep Finset.univ fun s => z c (outC s)) ∗ bigSep Finset.univ fun s => z c (posC s))

/-- The ring with its cells at zero, slot by slot, is the slots and the two sets of cells. -/
theorem ring_eq : (bigSep Finset.univ fun s : Fin 6 => hS c X G s .free)
    = iprop((bigSep Finset.univ fun s => sAny (F := F) c s) ∗ (bigSep Finset.univ fun s => z c (inC s)) ∗ bigSep Finset.univ fun s => z c (outC s)) := by
  show bigSep Finset.univ (fun s : Fin 6 => iprop(sAny (F := F) c s ∗ z c (inC s) ∗ z c (outC s))) = _
  exact (bigSep_sep _ _ _).trans (congrArg (fun A : sProp 𝕄 => iprop((bigSep Finset.univ fun s => sAny (F := F) c s) ∗ A)) (bigSep_sep _ _ _))
/-- The pair with its cells likewise. -/
theorem pair_eq : (bigSep Finset.univ fun s : Fin 2 => hQ c P s .free)
    = iprop((bigSep Finset.univ fun s => qAny (F := F) c s) ∗ bigSep Finset.univ fun s => z c (posC s)) := by
  show bigSep Finset.univ (fun s : Fin 2 => iprop(qAny (F := F) c s ∗ z c (posC s))) = _
  exact bigSep_sep _ _ _

/-- A slot of the pair that nothing is on its way to is a free one. -/
theorem hQ_free (s : Fin 2) (a : PSt) (h : ∀ i, a ≠ .inn i) : hQ c P s a ⊢ hQ c P s .free := by
  cases a with
  | free => exact Entails.of_eq rfl
  | inn i => exact absurd rfl (h i)
  | held i =>
    show iprop(qHas c s (pv c P i) ∗ z c (posC s)) ⊢ iprop(qAny (F := F) c s ∗ z c (posC s))
    unfold qHas qAny
    iintro ⟨⟨%f, -, H⟩, Hz⟩
    isplitl [H]
    · iexists f; iexact H
    · iexact Hz

/-- From the buffers and cells: the state before the first point. -/
theorem enter : ends c X P O ⊢ Inv c X P O G (at_ 0) := by
  rw [at_zero]
  unfold Inv ends
  show _ ⊢ iprop((bigSep Finset.univ fun b => xHas c X b) ∗ (bigSep Finset.univ fun b => oHas c O b) ∗ (bigSep Finset.univ fun i => pHas c P i)
    ∗ (bigSep Finset.univ fun s => hS c X G s .free) ∗ bigSep Finset.univ fun s => hQ c P s .free)
  rw [ring_eq, pair_eq, whole_x, whole_p, whole_o]
  iintro ⟨Hx, Hp, Ho, ⟨Hs, Hq⟩, Hi, Hz, Hc⟩
  isplitl [Hx]; · iexact Hx
  isplitl [Ho]; · iexact Ho
  isplitl [Hp]; · iexact Hp
  isplitl [Hs Hi Hz]
  · isplitl [Hs]; · iapply (split_s c) $$ Hs
    isplitl [Hi]; · iexact Hi
    iexact Hz
  · isplitl [Hq]; · iapply (split_q c) $$ Hq
    iexact Hc

/-- From the state after the last point: the buffers and cells, the result at `G`. -/
theorem leave : Inv c X P O G (at_ 64) ⊢ ends c X P G := by
  obtain ⟨h1, h2, h3, h4, h5⟩ := at_last
  have hq : bigSep Finset.univ (fun s => hQ c P s ((at_ 64).pl s)) ⊢ bigSep Finset.univ fun s : Fin 2 => hQ c P s .free :=
    bigSep_mono fun s _ => hQ_free c P s _ (h5 s)
  unfold Inv ends
  simp only [h1, h2, h3, h4]
  rw [ring_eq, whole_x, whole_p, whole_o]
  refine BIBase.Entails.trans (sep_mono_right (sep_mono_right (sep_mono_right (sep_mono_right hq)))) ?_
  rw [pair_eq]
  show iprop((bigSep Finset.univ fun b => xHas c X b) ∗ (bigSep Finset.univ fun b => oHas c G b) ∗ (bigSep Finset.univ fun i => pHas c P i) ∗ _ ∗ _) ⊢ _
  iintro ⟨Hx, Ho, Hp, ⟨Hs, Hi, Hz⟩, Hq, Hc⟩
  isplitl [Hx]; · iexact Hx
  isplitl [Hp]; · iexact Hp
  isplitl [Ho]; · iexact Ho
  isplitl [Hs Hq]
  · isplitl [Hs]; · iapply (join_s c) $$ Hs
    iapply (join_q c) $$ Hq
  isplitl [Hi]; · iexact Hi
  isplitl [Hz]; · iexact Hz
  iexact Hc

end Ends

/-! ## The run -/

section Run

variable (m : (ℓ : Loc nD τ sig) → Buf (Elt F) ℓ)

/-- What is held before each point of the grid, the result to become `G`. -/
def dats (G : (c : Dev nD) → (b : Ref sig .tc) → Buf (Elt F) ((c.tc : Thread nD τ).loc b)) (p : Fin 1) (c : Dev nD) :
    Pipeline.Dat τ (Elt F) Unit ℕ (Pipeline.UD sig nD τ) ℕ (cfgs p) c :=
  match p with
  | 0 =>
    { A := fun w => w.elim0
      after := fun w => w.elim0
      Φ := fun t => Inv c (V m c main_v0) (V m c main_arg1) (V m c main_v1) (G c main_v1) (at_ t.val)
      q := fun w => w.elim0
      owed := fun _ => 0 }

variable (G : (c : Dev nD) → (b : Ref sig .tc) → Buf (Elt F) ((c.tc : Thread nD τ).loc b))

theorem owes_idle (c : Dev nD) (t : Fin (cfg0.N + 1)) : (dats m G 0 c).owesAt () t ⊢ idle (F := F) c := by
  show iprop(∃ W, ⌜_⌝ ∗ owes (c.tc : Thread nD τ) (0 : CellTallies nD τ sig Unit) W) ⊢ _
  unfold idle
  iintro ⟨%W, -, H⟩
  iexists W
  iexact H

theorem idle_owes (c : Dev nD) (t : Fin (cfg0.N + 1)) : idle (F := F) c ⊢ (dats m G 0 c).owesAt () t := by
  show _ ⊢ iprop(∃ W, ⌜_⌝ ∗ owes (c.tc : Thread nD τ) (0 : CellTallies nD τ sig Unit) W)
  unfold idle
  iintro ⟨%W, H⟩
  iexists W
  isplitr
  · ipureintro; exact fun _ _ => Or.inl trivial
  · iexact H

/-- At every point the body leads from what is held before it to what is held after. -/
theorem obligation (hG : ∀ c b, gv c (G c main_v1) b = addf (xv c (V m c main_v0) b) (pv c (V m c main_arg1) (pb b))) (c : Dev nD) :
    Pipeline.BodyObligationLoose (dats m G 0 c) defs₀ Variants.none () Set.univ := by
  intro t
  have hc : (grid0.coords t 0).val = t.val := by revert t; decide +kernel
  have hb := body (𝒱 := Variants.none) (O := V m c main_v1) (grid0.coords t) (hG c)
  rw [hc] at hb
  unfold J at hb
  refine BIBase.Entails.trans ?_ (BIBase.Entails.trans hb (wp_mono _ _ _ fun r => ?_))
  · show iprop(Inv c (V m c main_v0) (V m c main_arg1) (V m c main_v1) (G c main_v1) (at_ t.val) ∗ _ ∗ _) ⊢ _
    iintro ⟨H, Ho, -⟩
    isplitl [H]; · iexact H
    iapply (owes_idle m G c _) $$ Ho
  · show _ ⊢ iprop(Inv c (V m c main_v0) (V m c main_arg1) (V m c main_v1) (G c main_v1) (at_ (t.val + 1)) ∗ _ ∗ bigSep (Finset.univ : Finset (Fin 0)) _)
    iintro ⟨H, Ho⟩
    isplitl [H]; · iexact H
    isplitl [Ho]; · iapply (idle_owes m G c _) $$ Ho
    rw [show (Finset.univ : Finset (Fin 0)) = ∅ from rfl, bigSep_empty]
    iempintro

/-- The buffers and cells of the kernel, as the launch holds them. -/
theorem ends_eq (c : Dev nD) (W : (c : Dev nD) → (b : Ref sig .tc) → Buf (Elt F) ((c.tc : Thread nD τ).loc b)) :
    (Pipeline.ΦDRV cells cfg0.spec {main_v0, main_arg1} {main_v1} (V m) W c : sProp 𝕄)
      = iprop(((∃ f, ((c.tc : Thread nD τ).loc cc0_scratch0) ↦{fullShare} f) ∗ (∃ f, ((c.tc : Thread nD τ).loc cc0_scratch1) ↦{fullShare} f))
        ∗ ((bigSep Finset.univ fun s => z c (inC s)) ∗ (bigSep Finset.univ fun s => z c (outC s)) ∗ bigSep Finset.univ fun s => z c (posC s))
        ∗ ((((c.tc : Thread nD τ).loc main_v0) ↦{fullShare} V m c main_v0) ∗ (((c.tc : Thread nD τ).loc main_arg1) ↦{fullShare} V m c main_arg1))
        ∗ (((c.tc : Thread nD τ).loc main_v1) ↦{fullShare} W c main_v1)) := by
  unfold Pipeline.ΦDRV
  rw [scopedRest0_eq, cells_zero, bigSep_insert (by decide : main_v0 ∉ ({main_arg1} : Finset (Ref sig .tc))), bigSep_singleton, bigSep_singleton]
  rfl

/-- What the kernel is launched with is the state before the first point. -/
theorem launch_in (c : Dev nD) : (Pipeline.ΦDRV cells cfg0.spec {main_v0, main_arg1} {main_v1} (V m) (V m) c : sProp 𝕄) ⊢ (dats m G 0 c).Φ 0 := by
  rw [ends_eq]
  show _ ⊢ Inv c (V m c main_v0) (V m c main_arg1) (V m c main_v1) (G c main_v1) (at_ 0)
  refine BIBase.Entails.trans ?_ (enter c _ _ _ _)
  unfold ends
  iintro ⟨Hs, Hc, ⟨Hx, Hp⟩, Ho⟩
  isplitl [Hx]; · iexact Hx
  isplitl [Hp]; · iexact Hp
  isplitl [Ho]; · iexact Ho
  isplitl [Hs]; · iexact Hs
  iexact Hc

/-- The state after the last point gives back what the kernel was launched with, the result at `G`. -/
theorem launch_out (c : Dev nD) : (dats m G 0 c).Φ (Fin.last cfg0.N) ⊢ (Pipeline.ΦDRV cells cfg0.spec {main_v0, main_arg1} {main_v1} (V m) G c : sProp 𝕄) := by
  rw [ends_eq]
  show Inv c (V m c main_v0) (V m c main_arg1) (V m c main_v1) (G c main_v1) (at_ 64) ⊢ _
  refine BIBase.Entails.trans (leave c _ _ _ _) ?_
  unfold ends
  iintro ⟨Hx, Hp, Ho, Hs, Hc⟩
  isplitl [Hs]; · iexact Hs
  isplitl [Hc]; · iexact Hc
  isplitl [Hx Hp]
  · isplitl [Hx]; · iexact Hx
    iexact Hp
  iexact Ho

/-- The program is its line before the kernel, the kernel, its line after. -/
theorem around : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The contents when the kernel ends: as it found them, but for the result. -/
def atEnd (c : Dev nD) : Valuation τ sig (Elt F) :=
  Pipeline.withArrays cfg0.spec c (Pipeline.withR (V0 m c) {main_v1} c (G c)) fun w => (dats m G 0 c).arrAt w cfg0.N

/-- Every buffer but the result is then as the kernel found it, -/
theorem atEnd_of_ne (c : Dev nD) (b : Ref sig .tc) (hb : b ∉ ({main_v1} : Finset (Ref sig .tc))) : atEnd m G c (Proc.devRef .tc b) = V m c b := by
  unfold atEnd
  rw [Pipeline.withArrays_of_ne _ c _ _ b (fun w => w.elim0), Pipeline.withR_of_not_mem _ _ c _ b hb]
/-- and the result is `G`. -/
theorem atEnd_result (c : Dev nD) : atEnd m G c (Proc.devRef .tc main_v1) = G c main_v1 := by
  unfold atEnd
  rw [Pipeline.withArrays_of_ne _ c _ _ main_v1 (fun w => w.elim0), Pipeline.withR_of_mem _ _ c _ main_v1 (by decide)]

/-- The line after the kernel writes the program's result and nothing else. -/
theorem after_arg (c : Dev nD) (b : Ref sig .tc) (h : b ≠ main_v2) (W : Valuation τ sig (Elt F)) :
    StableHlo.after (List.flatten [hostOps1]) W (Proc.devRef .tc b) = W (Proc.devRef .tc b) :=
  StableHlo.after_of_forall_not_mem _ _ fun op hop => by
    obtain rfl : op = StableHlo.reshape main_v1 main_v2 rfl shapeCasts_S32768x2048_S4x8192x2048 := by simpa using hop
    rw [StableHlo.reshape_writes, Finset.mem_singleton]
    exact StableHlo.devRef_ne_of_ne h

/-- Every run ends with the program's result the kernel's, refolded, and its arguments and cells as they were. -/
theorem run (hG : ∀ c b, gv c (G c main_v1) b = addf (xv c (V m c main_v0) b) (pv c (V m c main_arg1) (pb b))) (g : Dev nD → PrngReg) :
    θ_run (defs (F := F)) (onTc (τ := τ) (main (F := F))) ⟨m, fun _ => 0, g⟩ (fun r => (∀ c : Dev nD,
      r.2.mem ((c.tc : Thread nD τ).loc main_v2) = shapeCast S4x8192x2048 (G c main_v1) shapeCasts_S32768x2048_S4x8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_dmaR_aroundV cfgs (dats m G) 0 launch0 cells defs₀ Variants.none cells_facts {main_v0, main_arg1} {main_v1}
    (by decide) (by decide) m g main (obligation m G hG) (fun _ w => w.elim0) (fun _ _ => rfl) (V0 m) [hostOps1] sfx_sub sfx_fresh sfx_keeps
    G (around m) (fun _ w => w.elim0) (launch_in m G) (launch_out m G) _
    (fun r h => ⟨fun c => by
      have hr : ∀ b ∈ Pipeline.restRefs sig cfg0.spec, r.2.mem ((c.tc : Thread nD τ).loc b)
          = StableHlo.after (List.flatten [hostOps1]) (atEnd m G c) (Proc.devRef .tc b) := (h.1 c).2
      refine ⟨(hr main_v2 (by decide)).trans ?_, (hr main_arg0 (by decide)).trans ?_, (hr main_arg1 (by decide)).trans ?_⟩
      · show shapeCast S4x8192x2048 (atEnd m G c (Proc.devRef .tc main_v1)) _ = _
        rw [atEnd_result]
      · rw [after_arg c main_arg0 (by decide), atEnd_of_ne _ _ _ _ (by decide)]
        exact V_main_arg0 m c
      · rw [after_arg c main_arg1 (by decide), atEnd_of_ne _ _ _ _ (by decide)]
        exact V_main_arg1 m c, h.2⟩)

end Run

end Cert.Ring

end
-- ==== Proof.Value.lean ====
/- The value the kernel leaves: `x` with its batches laid end to end, plus the table at each row's position, folded back to
   four batches. -/
module

public import proofs.«01_k».proof.Proof.Run
public import Idealize.ShloMosaic.Lib.ValueIdxCore
public import Idealize.ShloMosaic.Lib.ValueLayout
public import Idealize.ShloMosaic.Lib.StableHlo.RunHlo
public import Idealize.ShloMosaic.Lib.Pipeline.Value
public import Idealize.ShloMosaic.Lib.Pipeline.ValueKit.Geometry

@[expose] public section

set_option maxRecDepth 65536

noncomputable section

namespace Cert.Ring

open Idealize.ShloMosaic Idealize.ShloMosaic.TcCoe Idealize.ShloMosaic.ValueIdx Idealize.SL
open Cert.KernelIdeal Cert.KernelIdeal.Gen

variable {F : FTy → Type} [FloatOps F]

/-- The table's index for an index of the rows laid end to end: the row's position within its batch, the same channel. -/
def posOf (i : S32768x2048.Idx) : S8192x2048.Idx := ix2 ⟨(i 0).val % 8192, Nat.mod_lt _ (by decide)⟩ (i 1)

/-- The rows laid end to end, each plus the table's row for its position. -/
def sumOf (X : FVec F S32768x2048 .f32) (P : FVec F S8192x2048 .f32) : FVec F S32768x2048 .f32 :=
  addf X (fun i => P (posOf i))

/-- Block `b` of the sum is block `b` of the rows plus block `b mod 16` of the table. -/
theorem block_sum (c : Dev nD) (X : Buf (Elt F) ((c.tc : Thread nD τ).loc main_v0)) (P : Buf (Elt F) ((c.tc : Thread nD τ).loc main_arg1))
    (b : Fin 64) : gv c (sumOf X P) b = addf (xv c X b) (pv c P (pb b)) := by
  funext j
  have h0 : (j 0).val < 512 := (j 0).isLt
  have hb := b.isLt
  show FloatOps.addf _ (P (posOf _)) = FloatOps.addf _ (P _)
  congr 2
  funext a
  apply Fin.ext
  match a with
  | ⟨0, _⟩ =>
    show (512 * b.val + 1 * (j 0).val) % 8192 = 512 * (b.val % 16) + 1 * (j 0).val
    omega
  | ⟨1, _⟩ => rfl

/-- The sum folded back to four batches, at batch `b`, position `s`, channel `d`: `x` there plus the table at `s`, `d`. -/
theorem refold (x : FVec F S4x8192x2048 .f32) (P : FVec F S8192x2048 .f32) (j : S4x8192x2048.Idx) :
    shapeCast S4x8192x2048 (sumOf (shapeCast S32768x2048 x shapeCasts_S4x8192x2048_S32768x2048) P) shapeCasts_S32768x2048_S4x8192x2048 j
      = FloatOps.addf (x j) (P (ix2 (j 1) (j 2))) := by
  have h0 : (j 0).val < 4 := (j 0).isLt
  have h1 : (j 1).val < 8192 := (j 1).isLt
  have hk : (S32768x2048.rowMajor (ix2 ⟨(j 0).val * 8192 + (j 1).val, by omega⟩ (j 2))).val = (S4x8192x2048.rowMajor j).val := by
    rw [Shape.rowMajor_val_two, Shape.rowMajor_val_three]
    rfl
  rw [shapeCast_apply _ _ j _ hk]
  show FloatOps.addf (shapeCast S32768x2048 x _ _) (P (posOf _)) = _
  rw [shapeCast_apply x _ _ j hk.symm]
  congr 2
  funext a
  apply Fin.ext
  match a with
  | ⟨0, _⟩ =>
    show ((j 0).val * 8192 + (j 1).val) % 8192 = (j 1).val
    omega
  | ⟨1, _⟩ => rfl

/-- What the kernel computes from `x` and the table. -/
def result (x : FVec F S4x8192x2048 .f32) (P : FVec F S8192x2048 .f32) : FVec F S4x8192x2048 .f32 :=
  fun j => FloatOps.addf (x j) (P (ix2 (j 1) (j 2)))

/-- Every run of the kernel ends with the result in place, the arguments as they were and every semaphore at zero. -/
theorem run_result (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  have e : ∀ c : Dev nD, V m c main_v0 = shapeCast S32768x2048 (m ((c.tc : Thread nD τ).loc main_arg0)) shapeCasts_S4x8192x2048_S32768x2048 :=
    fun _ => rfl
  refine θ_run_mono (run m (fun c => Function.update (V m c) main_v1 (sumOf (V m c main_v0) (V m c main_arg1)))
    (fun c b => by rw [Function.update_self]; exact block_sum c _ _ b) g) fun r h => ⟨fun c => ⟨(h.1 c).1.trans ?_, (h.1 c).2⟩, h.2⟩
  rw [Function.update_self, V_main_arg1, e]
  exact funext fun j => refold _ _ j

end Cert.Ring

end
-- ==== Proof.Table.lean ====
/- The reference's value: looking the table up at every position in turn is the table itself, so the reference is `x` plus
   the table, repeated over the batch. -/
module

public import proofs.«01_k».proof.Proof.Gen.ReferenceIdeal.Run
public import Idealize.ShloMosaic.Lib.ValueIdxCore
public import Idealize.ShloMosaic.Lib.ValueLayout
public import Idealize.ShloMosaic.Lib.Pipeline.Value
public import Idealize.ShloMosaic.Lib.WordCmp

@[expose] public section

set_option maxRecDepth 16384

noncomputable section

namespace Cert.Table

open Idealize.ShloMosaic Idealize.ShloMosaic.TcCoe Idealize.ShloMosaic.ValueIdx Idealize.ShloMosaic.WordCmp
open Cert.ReferenceIdeal Cert.ReferenceIdeal.Gen

variable {F : FTy → Type} [FloatOps F]

/-- The positions 0, 1, …, 8191. -/
abbrev positions : IVec S8192 32 := iotaInDim S8192 32 0
/-- The positions, a negative one counted from the end. -/
abbrev wrapped : IVec S8192 32 :=
  select (cmpi .slt positions (broadcastInDim S8192 ![] bcast_S_S8192 (constantI S_ 32 0#32)))
    (addi positions (broadcastInDim S8192 ![] bcast_S_S8192 (constantI S_ 32 8192#32))) positions
/-- The same as a column. -/
abbrev column : IVec S8192x1 32 := broadcastInDim S8192x1 ![0] bcast_S8192_S8192x1_0 wrapped
/-- Whether each is at least 0 and at most 8191. -/
abbrev within : IVec S8192x1 1 :=
  andi (cmpi .sge column (broadcastInDim S8192x1 ![] bcast_S_S8192x1 (constantI S_ 32 0#32)))
    (cmpi .sle column (broadcastInDim S8192x1 ![0, 1] bcast_S1x1_S8192x1_0_1 (broadcastInDim S1x1 ![1] bcast_S1_S1x1_1 (constantI S1 32 8191#32))))
/-- The table looked up at every position, as the reference does it. -/
abbrev lookup (P : FVec F S8192x2048 .f32) : FVec F S8192x2048 .f32 :=
  select (broadcastInDim S8192x2048 ![0] bcast_S8192_S8192x2048_0
      (Host.reduce IntOp.andi within (constantI S_ 1 1#1) reducesTo_S8192x1_S8192_d1 h_S_))
    (Host.gather gather_S8192x2048_S8192x1_S8192x2048_1_0_n_n_0_1_12048 P column)
    (broadcastInDim S8192x2048 ![] bcast_S_S8192x2048 (constant S_ .f32 0x7FC00000#32))

/-- No position is negative. -/
theorem wrapped_apply (j : S8192.Idx) : wrapped j = BitVec.ofNat 32 (j 0).val := by
  have hj : (j 0).val < 8192 := (j 0).isLt
  show Scalar.select (IntOp.cmpi .slt (BitVec.ofNat 32 (j 0).val) 0#32) _ (BitVec.ofNat 32 (j 0).val) = _
  have h0 : IntOp.cmpi .slt (BitVec.ofNat 32 (j 0).val) 0#32 = 0#1 :=
    (cmpi_slt_ofNat_eq_zero_iff (by omega) (by omega)).mpr (by omega)
  rw [h0]
  rfl

/-- The column holds each row's own number. -/
theorem column_apply (j : S8192x1.Idx) : column j = BitVec.ofNat 32 (j 0).val := by
  refine (broadcastInDim_apply _ _ wrapped j (ix1 (j 0)) fun a => ?_).trans (wrapped_apply _)
  obtain rfl : a = 0 := Subsingleton.elim _ _
  rfl

/-- Every position is within the table. -/
theorem within_apply (j : S8192x1.Idx) : within j = 1#1 := by
  have hj : (j 0).val < 8192 := (j 0).isLt
  have h1 : IntOp.cmpi .sge (BitVec.ofNat 32 (j 0).val) 0#32 = 1#1 := (cmpi_sge_ofNat_eq_one_iff (by omega) (by omega)).mpr (by omega)
  have h2 : IntOp.cmpi .sle (BitVec.ofNat 32 (j 0).val) 8191#32 = 1#1 := (cmpi_sle_ofNat_eq_one_iff (by omega) (by omega)).mpr (by omega)
  show IntOp.andi (IntOp.cmpi .sge (column j) 0#32) (IntOp.cmpi .sle (column j) 8191#32) = 1#1
  rw [column_apply, h1, h2]
  rfl

/-- "And" over ones is one. -/
theorem ands {I : Type} (l : List I) (f : I → BitVec 1) (hf : ∀ i, f i = 1#1) : l.foldl (fun r n => IntOp.andi r (f n)) 1#1 = 1#1 := by
  induction l with
  | nil => rfl
  | cons a l ih =>
    rw [List.foldl_cons, hf a]
    exact ih

/-- The lookup reads row `i` of the table at position `i`. -/
theorem gather_apply (P : FVec F S8192x2048 .f32) (j : S8192x2048.Idx) :
    Host.gather gather_S8192x2048_S8192x1_S8192x2048_1_0_n_n_0_1_12048 P column j = P j := by
  have hj : (j 0).val < 8192 := (j 0).isLt
  unfold Host.gather
  refine congrArg P (funext fun a => Fin.ext ?_)
  show GatherDims.start _ j column a + GatherDims.batchCoord _ j a + GatherDims.offCoord _ j a = _
  rw [GatherDims.batchCoord_eq_zero _ _ _ List.not_mem_nil]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl))]
    have h : ∀ k, (column k).toInt.toNat = (k 0).val := fun k => by
      have hk : (k 0).val < 8192 := (k 0).isLt
      rw [column_apply, toInt_ofNat_of_lt (by omega)]
      rfl
    have e : GatherDims.start gather_S8192x2048_S8192x1_S8192x2048_1_0_n_n_0_1_12048 j column 0 = min (j 0).val 8191 := by
      unfold GatherDims.start
      refine (dif_pos (List.mem_singleton.mpr rfl)).trans ?_
      rw [h]
      rfl
    rw [e]
    omega
  · have e : GatherDims.start gather_S8192x2048_S8192x1_S8192x2048_1_0_n_n_0_1_12048 j column 1 = 0 := by
      unfold GatherDims.start
      exact dif_neg (fun h => absurd (List.mem_singleton.mp h) (by decide))
    have o : GatherDims.offCoord gather_S8192x2048_S8192x1_S8192x2048_1_0_n_n_0_1_12048 j 1 = (j 1).val := by
      unfold GatherDims.offCoord
      exact dif_pos ((GatherDims.mem_sKept _ _).mpr ⟨fun h => absurd (List.mem_singleton.mp h) (by decide), List.not_mem_nil⟩)
    rw [e, o]
    omega

/-- Looking the table up at every position gives the table. -/
theorem lookup_eq (P : FVec F S8192x2048 .f32) : lookup P = P := by
  funext j
  have h : Host.reduce IntOp.andi within (constantI S_ 1 1#1) reducesTo_S8192x1_S8192_d1 h_S_ = fun _ => 1#1 :=
    funext fun k => ands _ _ fun n => within_apply _
  unfold lookup
  rw [h]
  exact gather_apply P j

/-- The reference's result at batch `b`, position `s`, channel `d` is `x` there plus the table at `s`, `d`. -/
theorem value (x : FVec F S4x8192x2048 .f32) (P : FVec F S8192x2048 .f32) (j : S4x8192x2048.Idx) :
    addf x (broadcastInDim S4x8192x2048 ![0, 1, 2] bcast_S1x8192x2048_S4x8192x2048_0_1_2
      (broadcastInDim S1x8192x2048 ![1, 2] bcast_S8192x2048_S1x8192x2048_1_2 (lookup P))) j
      = FloatOps.addf (x j) (P (ix2 (j 1) (j 2))) := by
  rw [lookup_eq]
  show FloatOps.addf (x j) _ = _
  congr 1
  refine (broadcastInDim_apply _ _ _ j (ix3 0 (j 1) (j 2)) fun a => ?_).trans (broadcastInDim_apply _ _ P _ (ix2 (j 1) (j 2)) fun a => ?_)
  · match a with
    | ⟨0, _⟩ => rfl
    | ⟨1, _⟩ => rfl
    | ⟨2, _⟩ => rfl
  · match a with
    | ⟨0, _⟩ => rfl
    | ⟨1, _⟩ => rfl

/-- The reference has no semaphores, so what they hold is nothing. -/
theorem no_cells (f : GSem nD τ sig → Int) : f = fun _ => 0 := funext fun s => match s.2 with
  | .reg i => i.elim0
  | .dma i => i.elim0

end Cert.Table

end
-- ==== Proof.lean ====
/- The certificate: each program runs to its end with its arguments and its semaphores as they were, and the kernel's result is
   the reference's. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Table
public import Idealize.ShloMosaic.Adequacy
public import Idealize.ShloMosaic.Init

@[expose] public section

noncomputable section

namespace Cert.Proof

open Idealize.ShloMosaic Idealize.ShloMosaic.TcCoe Idealize.SL.Sem

/-- The kernel runs to its end, its arguments and semaphores as they were. -/
theorem kernel_frame : Cert.quiescent_Kernel (hKernel := Cert.Kernel.Gen.facts) := fun m g _ =>
  θ_run_mono (Cert.Ring.run_result (F := Bits) m g) fun _ h => ⟨fun c => (h.1 c).2, h.2⟩

/-- So does its idealization, -/
theorem ideal_frame : Cert.quiescent_KernelIdeal (hKernelIdeal := Cert.KernelIdeal.Gen.facts) := fun m g _ =>
  θ_run_mono (Cert.Ring.run_result (F := Ideal) m g) fun _ h => ⟨fun c => (h.1 c).2, h.2⟩

/-- and the reference. -/
theorem reference_frame : Cert.quiescent_ReferenceIdeal (hReferenceIdeal := Cert.ReferenceIdeal.Gen.facts) := fun m g _ =>
  θ_run_mono (Cert.ReferenceIdeal.Value.run (F := Ideal) m g) fun r h => ⟨fun c => (h c).2, Cert.Table.no_cells r.2.sem⟩

/-- From the same arguments the two end with the same result. -/
theorem same_result : Cert.algebraic_KernelIdeal_ReferenceIdeal (hKernelIdeal := Cert.KernelIdeal.Gen.facts)
    (hReferenceIdeal := Cert.ReferenceIdeal.Gen.facts) := fun m g m' g' _ hm =>
  ⟨_, θ_run_mono (Cert.Ring.run_result (F := Ideal) m g) fun _ h c => h.1 c,
    θ_run_mono (Cert.ReferenceIdeal.Value.run (F := Ideal) m' g') fun _ h c =>
      ⟨(h c).1.trans (by
        rw [(hm c).1, (hm c).2]
        exact funext fun j => Cert.Table.value _ _ j), (h c).2⟩⟩

theorem claim : Cert.Claim := ⟨Cert.Kernel.Gen.facts, Cert.KernelIdeal.Gen.facts, Cert.ReferenceIdeal.Gen.facts,
  kernel_frame, ideal_frame, reference_frame, trivial, same_result⟩

end Cert.Proof

end
